-- ==== Defs.lean ====
def Pre_Kernel [hPre_sorted_segments : Cert.Pre_sorted_segments.Facts] (m : (ℓ : Loc Cert.Kernel.nD Cert.Kernel.τ Cert.Kernel.sig) → Buf (Elt Bits) ℓ) : Prop :=
  ∀ c : Dev Cert.Kernel.nD,
    (Cert.Pre_sorted_segments.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_sorted_segments : Cert.Pre_sorted_segments.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_segments [hPre_sorted_segments : Cert.Pre_sorted_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_sorted_segments : Cert.Pre_sorted_segments.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_sorted_segments [hReferenceIdeal : Cert.ReferenceIdeal.Facts] [hPre_sorted_segments : Cert.Pre_sorted_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_sorted_segments : Cert.Pre_sorted_segments.Facts),
    quiescent_Kernel (hKernel := hKernel) (hPre_sorted_segments := hPre_sorted_segments)
    ∧ quiescent_KernelIdeal (hKernelIdeal := hKernelIdeal) (hPre_sorted_segments := hPre_sorted_segments)
    ∧ quiescent_ReferenceIdeal (hReferenceIdeal := hReferenceIdeal)
    ∧ quiescent_ReferenceIdeal_pre_sorted_segments (hReferenceIdeal := hReferenceIdeal) (hPre_sorted_segments := hPre_sorted_segments)
    ∧ preserves_Kernel_KernelIdeal
    ∧ algebraic_KernelIdeal_ReferenceIdeal (hKernelIdeal := hKernelIdeal) (hReferenceIdeal := hReferenceIdeal) (hPre_sorted_segments := hPre_sorted_segments)
-- ==== Pre_sorted_segments.lean ====
abbrev S50000x512 : Shape := ⟨2, ![50000, 512]⟩
abbrev S50000 : Shape := ⟨1, ![50000]⟩
abbrev S512x512 : Shape := ⟨2, ![512, 512]⟩
abbrev S512 : Shape := ⟨1, ![512]⟩
abbrev S1024x512 : Shape := ⟨2, ![1024, 512]⟩
abbrev S_ : Shape := ⟨0, ![]⟩
abbrev S49999 : Shape := ⟨1, ![49999]⟩

class Facts : Prop where
  bcast_S_S50000 : S_.BroadcastsInDim S50000 (![] : Fin 0 → Fin S50000.rank)
  reducesTo_S50000_S_d0 : S50000.ReducesTo [0] S_
  h_S_ : 0 < S_.numel
  slices_S50000_S49999_0 : S50000.Slices ![0] S49999
  slices_S50000_S49999_1 : S50000.Slices ![1] S49999
  reducesTo_S49999_S_d0 : S49999.ReducesTo [0] S_

variable [Facts]

def fn {F : FTy → Type} [FloatOps F] (main_arg0 : FVec F S50000x512 .f32) (main_arg1 : IVec S50000 32) (main_arg2 : FVec F S512x512 .f32) (main_arg3 : FVec F S512 .f32) (main_arg4 : FVec F S512x512 .f32) (main_arg5 : FVec F S512 .f32) (main_arg6 : FVec F S1024x512 .f32) (main_arg7 : FVec F S512 .f32) : IVec S_ 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 1 := constantI S_ 1 1#1
  let main_v2 : IVec S_ 1 := (fun x v => Host.reduce IntOp.andi x v reducesTo_S50000_S_d0 h_S_) main_v1 main_c_0
  let main_c_1 : IVec S_ 32 := constantI S_ 32 64#32
  let main_v3 : IVec S50000 32 := broadcastInDim S50000 ![] bcast_S_S50000 main_c_1
  let main_v4 : IVec S50000 1 := cmpi .slt main_arg1 main_v3
  let main_c_2 : IVec S_ 1 := constantI S_ 1 1#1
  let main_v5 : IVec S_ 1 := (fun x v => Host.reduce IntOp.andi x v reducesTo_S50000_S_d0 h_S_) main_v4 main_c_2
  let main_v6 : IVec S_ 1 := andi main_v2 main_v5
  let main_v7 : IVec S49999 32 := (extractStridedSlice S49999 ![0] · slices_S50000_S49999_0) main_arg1
  let main_v8 : IVec S49999 32 := (extractStridedSlice S49999 ![1] · slices_S50000_S49999_1) main_arg1
  let main_v9 : IVec S49999 1 := cmpi .sle main_v7 main_v8
  let main_c_3 : IVec S_ 1 := constantI S_ 1 1#1
  let main_v10 : IVec S_ 1 := (fun x v => Host.reduce IntOp.andi x v reducesTo_S49999_S_d0 h_S_) main_v9 main_c_3
  let main_v11 : IVec S_ 1 := andi main_v6 main_v10
  main_v11
-- ==== Kernel.lean ====
abbrev S50000x512 : Shape := ⟨2, ![50000, 512]⟩
abbrev S50000 : Shape := ⟨1, ![50000]⟩
abbrev S512x512 : Shape := ⟨2, ![512, 512]⟩
abbrev S512 : Shape := ⟨1, ![512]⟩
abbrev S1024x512 : Shape := ⟨2, ![1024, 512]⟩
abbrev S50000x1 : Shape := ⟨2, ![50000, 1]⟩
abbrev S125 : Shape := ⟨1, ![125]⟩
abbrev S125x1 : Shape := ⟨2, ![125, 1]⟩
abbrev S125x2 : Shape := ⟨2, ![125, 2]⟩
abbrev S25x1x10 : Shape := ⟨3, ![25, 1, 10]⟩
abbrev S1x512 : Shape := ⟨2, ![1, 512]⟩
abbrev S64x512 : Shape := ⟨2, ![64, 512]⟩
abbrev S64x128 : Shape := ⟨2, ![64, 128]⟩
abbrev S1x1x10 : Shape := ⟨3, ![1, 1, 10]⟩
abbrev S2000x1 : Shape := ⟨2, ![2000, 1]⟩
abbrev S2000x512 : Shape := ⟨2, ![2000, 512]⟩
abbrev S2000x64 : Shape := ⟨2, ![2000, 64]⟩
abbrev S64 : Shape := ⟨1, ![64]⟩
abbrev S1x64 : Shape := ⟨2, ![1, 64]⟩
abbrev S64x1 : Shape := ⟨2, ![64, 1]⟩
abbrev S400x512 : Shape := ⟨2, ![400, 512]⟩
abbrev S400x1 : Shape := ⟨2, ![400, 1]⟩
abbrev S1x1x1 : Shape := ⟨3, ![1, 1, 1]⟩
abbrev S5000x1 : Shape := ⟨2, ![5000, 1]⟩
abbrev S5000x512 : Shape := ⟨2, ![5000, 512]⟩
abbrev S5000x64 : Shape := ⟨2, ![5000, 64]⟩

abbrev nBuf : Space → Nat
  | .hbm => 22
  | .vmem => 23
  | .smem => 2
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1024x512, .f32⟩
  | .hbm, ⟨7, _⟩ => ⟨S512, .f32⟩
  | .hbm, ⟨8, _⟩ => ⟨S50000x1, .i32⟩
  | .hbm, ⟨9, _⟩ => ⟨S125, .i32⟩
  | .hbm, ⟨10, _⟩ => ⟨S125, .i32⟩
  | .hbm, ⟨11, _⟩ => ⟨S125x1, .i32⟩
  | .hbm, ⟨12, _⟩ => ⟨S125x1, .i32⟩
  | .hbm, ⟨13, _⟩ => ⟨S125x2, .i32⟩
  | .hbm, ⟨14, _⟩ => ⟨S25x1x10, .i32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S64x512, .f32⟩
  | .hbm, ⟨19, _⟩ => ⟨S64x128, .f32⟩
  | .hbm, ⟨20, _⟩ => ⟨S64x512, .f32⟩
  | .hbm, ⟨21, _⟩ => ⟨S50000x512, .f32⟩
  | .local _ .vmem, ⟨0, _⟩ => ⟨S2000x1, .i32⟩
  | .local _ .vmem, ⟨1, _⟩ => ⟨S2000x1, .i32⟩
  | .local _ .vmem, ⟨2, _⟩ => ⟨S2000x512, .f32⟩
  | .local _ .vmem, ⟨3, _⟩ => ⟨S2000x512, .f32⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S64x512, .f32⟩
  | .local _ .vmem, ⟨9, _⟩ => ⟨S64x128, .f32⟩
  | .local _ .vmem, ⟨10, _⟩ => ⟨S64x512, .f32⟩
  | .local _ .vmem, ⟨11, _⟩ => ⟨S5000x1, .i32⟩
  | .local _ .vmem, ⟨12, _⟩ => ⟨S5000x1, .i32⟩
  | .local _ .vmem, ⟨13, _⟩ => ⟨S5000x512, .f32⟩
  | .local _ .vmem, ⟨14, _⟩ => ⟨S5000x512, .f32⟩
  | .local _ .vmem, ⟨15, _⟩ => ⟨S64x512, .f32⟩
  | .local _ .vmem, ⟨16, _⟩ => ⟨S64x128, .f32⟩
  | .local _ .vmem, ⟨17, _⟩ => ⟨S64x512, .f32⟩
  | .local _ .vmem, ⟨18, _⟩ => ⟨S1024x512, .f32⟩
  | .local _ .vmem, ⟨19, _⟩ => ⟨S1x512, .f32⟩
  | .local _ .vmem, ⟨20, _⟩ => ⟨S5000x512, .f32⟩
  | .local _ .vmem, ⟨21, _⟩ => ⟨S5000x512, .f32⟩
  | .local _ .vmem, ⟨22, _⟩ => ⟨S64x512, .f32⟩
  | .local _ .smem, ⟨0, _⟩ => ⟨S1x1x10, .i32⟩
  | .local _ .smem, ⟨1, _⟩ => ⟨S1x1x10, .i32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v11 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc1_scratch0 : Ref sig .tc := ⟨.vmem, 22, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![25], ![false]⟩

@[reducible] def k0_t1_loop (v44 : BitVec 32) (v45 : BitVec 32) : Scf.Loop 32 :=
  let c1_i32 : BitVec 32 := 1#32
  let v46 : BitVec 32 := Scalar.addi v45 c1_i32
  let v47 : BitVec 32 := Scalar.subi v46 v44
  let c1_i32_31 : BitVec 32 := 1#32
  let v49 : BitVec 32 := Scalar.divsi v47 c1_i32_31
  let v50 : BitVec 32 := Scalar.muli v49 c1_i32_31
  let v51 : BitVec 32 := Scalar.addi v44 v50
  let c1_i32_32 : BitVec 32 := 1#32
  ⟨v44, v51, c1_i32_32⟩

def k0_off1 (v44 : BitVec 32) (v45 : BitVec 32) (k0_t1 : Fin (k0_t1_loop v44 v45).trips) : Fin 2 → Nat :=
  let c1_i32_32 : BitVec 32 := 1#32
  let arg11 : BitVec 32 := Scf.iv v44 c1_i32_32 k0_t1
  let v110 : Index := Scalar.indexCast arg11
  let c0_72 : Index := 0#32
  ![v110.toNat, 0]
@[reducible] def k0_t2_loop (v44 : BitVec 32) (v45 : BitVec 32) : Scf.Loop 32 :=
  let c1_i32 : BitVec 32 := 1#32
  let v46 : BitVec 32 := Scalar.addi v45 c1_i32
  let v47 : BitVec 32 := Scalar.subi v46 v44
  let c1_i32_31 : BitVec 32 := 1#32
  let v49 : BitVec 32 := Scalar.divsi v47 c1_i32_31
  let v50 : BitVec 32 := Scalar.muli v49 c1_i32_31
  let v51 : BitVec 32 := Scalar.addi v44 v50
  let v48 : BitVec 32 := Scalar.addi v44 v47
  let c1_i32_33 : BitVec 32 := 1#32
  ⟨v51, v48, c1_i32_33⟩
def k0_off2 (v44 : BitVec 32) (v45 : BitVec 32) (k0_t2 : Fin (k0_t2_loop v44 v45).trips) : Fin 2 → Nat :=
  let c1_i32 : BitVec 32 := 1#32
  let v46 : BitVec 32 := Scalar.addi v45 c1_i32
  let v47 : BitVec 32 := Scalar.subi v46 v44
  let c1_i32_31 : BitVec 32 := 1#32
  let v49 : BitVec 32 := Scalar.divsi v47 c1_i32_31
  let v50 : BitVec 32 := Scalar.muli v49 c1_i32_31
  let v51 : BitVec 32 := Scalar.addi v44 v50
  let c1_i32_33 : BitVec 32 := 1#32
  let arg11 : BitVec 32 := Scf.iv v51 c1_i32_33 k0_t2
  let v110 : Index := Scalar.indexCast arg11
  let c0_72 : Index := 0#32
  ![v110.toNat, 0]

def k0_chk1 (v44 : BitVec 32) (v45 : BitVec 32) : Prop :=
  ((k0_t1_loop v44 v45).OK) ∧
  (∀ k0_t1 : Fin (k0_t1_loop v44 v45).trips, ∀ a, (k0_off1 v44 v45 k0_t1) a + S1x512.size a ≤ S64x512.size a) ∧
  ((k0_t2_loop v44 v45).OK) ∧
  (∀ k0_t2 : Fin (k0_t2_loop v44 v45).trips, ∀ a, (k0_off2 v44 v45 k0_t2) a + S1x512.size a ≤ S64x512.size a)
theorem k0_t1_ok : ∀ (v44 : BitVec 32) (v45 : BitVec 32) (k0_hw1 : k0_chk1 v44 v45), (k0_t1_loop v44 v45).OK := fun v44 v45 k0_hw1 => k0_hw1.1
theorem k0_off1_inb : ∀ (v44 : BitVec 32) (v45 : BitVec 32) (k0_hw1 : k0_chk1 v44 v45) (k0_t1 : Fin (k0_t1_loop v44 v45).trips), ∀ a, (k0_off1 v44 v45 k0_t1) a + S1x512.size a ≤ S64x512.size a := fun v44 v45 k0_hw1 k0_t1 => k0_hw1.2.1 k0_t1
theorem k0_t2_ok : ∀ (v44 : BitVec 32) (v45 : BitVec 32) (k0_hw1 : k0_chk1 v44 v45), (k0_t2_loop v44 v45).OK := fun v44 v45 k0_hw1 => k0_hw1.2.2.1
theorem k0_off2_inb : ∀ (v44 : BitVec 32) (v45 : BitVec 32) (k0_hw1 : k0_chk1 v44 v45) (k0_t2 : Fin (k0_t2_loop v44 v45).trips), ∀ a, (k0_off2 v44 v45 k0_t2) a + S1x512.size a ≤ S64x512.size a := fun v44 v45 k0_hw1 k0_t2 => k0_hw1.2.2.2 k0_t2

@[reducible] def k0_t3_loop (v56 : BitVec 32) (v57 : BitVec 32) : Scf.Loop 32 :=
  let c1_i32_38 : BitVec 32 := 1#32
  let v58 : BitVec 32 := Scalar.addi v57 c1_i32_38
  let v59 : BitVec 32 := Scalar.subi v58 v56
  let c1_i32_40 : BitVec 32 := 1#32
  let v61 : BitVec 32 := Scalar.divsi v59 c1_i32_40
  let v62 : BitVec 32 := Scalar.muli v61 c1_i32_40
  let v63 : BitVec 32 := Scalar.addi v56 v62
  let c1_i32_41 : BitVec 32 := 1#32
  ⟨v56, v63, c1_i32_41⟩

def k0_off3 (v56 : BitVec 32) (v57 : BitVec 32) (k0_t3 : Fin (k0_t3_loop v56 v57).trips) : Fin 2 → Nat :=
  let c1_i32_41 : BitVec 32 := 1#32
  let arg11 : BitVec 32 := Scf.iv v56 c1_i32_41 k0_t3
  let v110 : Index := Scalar.indexCast arg11
  let c0_72 : Index := 0#32
  ![v110.toNat, 0]
@[reducible] def k0_t4_loop (v56 : BitVec 32) (v57 : BitVec 32) : Scf.Loop 32 :=
  let c1_i32_38 : BitVec 32 := 1#32
  let v58 : BitVec 32 := Scalar.addi v57 c1_i32_38
  let v59 : BitVec 32 := Scalar.subi v58 v56
  let c1_i32_40 : BitVec 32 := 1#32
  let v61 : BitVec 32 := Scalar.divsi v59 c1_i32_40
  let v62 : BitVec 32 := Scalar.muli v61 c1_i32_40
  let v63 : BitVec 32 := Scalar.addi v56 v62
  let v60 : BitVec 32 := Scalar.addi v56 v59
  let c1_i32_42 : BitVec 32 := 1#32
  ⟨v63, v60, c1_i32_42⟩
def k0_off4 (v56 : BitVec 32) (v57 : BitVec 32) (k0_t4 : Fin (k0_t4_loop v56 v57).trips) : Fin 2 → Nat :=
  let c1_i32_38 : BitVec 32 := 1#32
  let v58 : BitVec 32 := Scalar.addi v57 c1_i32_38
  let v59 : BitVec 32 := Scalar.subi v58 v56
  let c1_i32_40 : BitVec 32 := 1#32
  let v61 : BitVec 32 := Scalar.divsi v59 c1_i32_40
  let v62 : BitVec 32 := Scalar.muli v61 c1_i32_40
  let v63 : BitVec 32 := Scalar.addi v56 v62
  let c1_i32_42 : BitVec 32 := 1#32
  let arg11 : BitVec 32 := Scf.iv v63 c1_i32_42 k0_t4
  let v110 : Index := Scalar.indexCast arg11
  let c0_72 : Index := 0#32
  ![v110.toNat, 0]

def k0_chk2 (v56 : BitVec 32) (v57 : BitVec 32) : Prop :=
  ((k0_t3_loop v56 v57).OK) ∧
  (∀ k0_t3 : Fin (k0_t3_loop v56 v57).trips, ∀ a, (k0_off3 v56 v57 k0_t3) a + S1x512.size a ≤ S64x512.size a) ∧
  ((k0_t4_loop v56 v57).OK) ∧
  (∀ k0_t4 : Fin (k0_t4_loop v56 v57).trips, ∀ a, (k0_off4 v56 v57 k0_t4) a + S1x512.size a ≤ S64x512.size a)
theorem k0_t3_ok : ∀ (v56 : BitVec 32) (v57 : BitVec 32) (k0_hw2 : k0_chk2 v56 v57), (k0_t3_loop v56 v57).OK := fun v56 v57 k0_hw2 => k0_hw2.1
theorem k0_off3_inb : ∀ (v56 : BitVec 32) (v57 : BitVec 32) (k0_hw2 : k0_chk2 v56 v57) (k0_t3 : Fin (k0_t3_loop v56 v57).trips), ∀ a, (k0_off3 v56 v57 k0_t3) a + S1x512.size a ≤ S64x512.size a := fun v56 v57 k0_hw2 k0_t3 => k0_hw2.2.1 k0_t3
theorem k0_t4_ok : ∀ (v56 : BitVec 32) (v57 : BitVec 32) (k0_hw2 : k0_chk2 v56 v57), (k0_t4_loop v56 v57).OK := fun v56 v57 k0_hw2 => k0_hw2.2.2.1
theorem k0_off4_inb : ∀ (v56 : BitVec 32) (v57 : BitVec 32) (k0_hw2 : k0_chk2 v56 v57) (k0_t4 : Fin (k0_t4_loop v56 v57).trips), ∀ a, (k0_off4 v56 v57 k0_t4) a + S1x512.size a ≤ S64x512.size a := fun v56 v57 k0_hw2 k0_t4 => k0_hw2.2.2.2 k0_t4

@[reducible] def k0_t5_loop (v68 : BitVec 32) (v69 : BitVec 32) : Scf.Loop 32 :=
  let c1_i32_47 : BitVec 32 := 1#32
  let v70 : BitVec 32 := Scalar.addi v69 c1_i32_47
  let v71 : BitVec 32 := Scalar.subi v70 v68
  let c1_i32_49 : BitVec 32 := 1#32
  let v73 : BitVec 32 := Scalar.divsi v71 c1_i32_49
  let v74 : BitVec 32 := Scalar.muli v73 c1_i32_49
  let v75 : BitVec 32 := Scalar.addi v68 v74
  let c1_i32_50 : BitVec 32 := 1#32
  ⟨v68, v75, c1_i32_50⟩

def k0_off5 (v68 : BitVec 32) (v69 : BitVec 32) (k0_t5 : Fin (k0_t5_loop v68 v69).trips) : Fin 2 → Nat :=
  let c1_i32_50 : BitVec 32 := 1#32
  let arg11 : BitVec 32 := Scf.iv v68 c1_i32_50 k0_t5
  let v110 : Index := Scalar.indexCast arg11
  let c0_72 : Index := 0#32
  ![v110.toNat, 0]
@[reducible] def k0_t6_loop (v68 : BitVec 32) (v69 : BitVec 32) : Scf.Loop 32 :=
  let c1_i32_47 : BitVec 32 := 1#32
  let v70 : BitVec 32 := Scalar.addi v69 c1_i32_47
  let v71 : BitVec 32 := Scalar.subi v70 v68
  let c1_i32_49 : BitVec 32 := 1#32
  let v73 : BitVec 32 := Scalar.divsi v71 c1_i32_49
  let v74 : BitVec 32 := Scalar.muli v73 c1_i32_49
  let v75 : BitVec 32 := Scalar.addi v68 v74
  let v72 : BitVec 32 := Scalar.addi v68 v71
  let c1_i32_51 : BitVec 32 := 1#32
  ⟨v75, v72, c1_i32_51⟩
def k0_off6 (v68 : BitVec 32) (v69 : BitVec 32) (k0_t6 : Fin (k0_t6_loop v68 v69).trips) : Fin 2 → Nat :=
  let c1_i32_47 : BitVec 32 := 1#32
  let v70 : BitVec 32 := Scalar.addi v69 c1_i32_47
  let v71 : BitVec 32 := Scalar.subi v70 v68
  let c1_i32_49 : BitVec 32 := 1#32
  let v73 : BitVec 32 := Scalar.divsi v71 c1_i32_49
  let v74 : BitVec 32 := Scalar.muli v73 c1_i32_49
  let v75 : BitVec 32 := Scalar.addi v68 v74
  let c1_i32_51 : BitVec 32 := 1#32
  let arg11 : BitVec 32 := Scf.iv v75 c1_i32_51 k0_t6
  let v110 : Index := Scalar.indexCast arg11
  let c0_72 : Index := 0#32
  ![v110.toNat, 0]

def k0_chk3 (v68 : BitVec 32) (v69 : BitVec 32) : Prop :=
  ((k0_t5_loop v68 v69).OK) ∧
  (∀ k0_t5 : Fin (k0_t5_loop v68 v69).trips, ∀ a, (k0_off5 v68 v69 k0_t5) a + S1x512.size a ≤ S64x512.size a) ∧
  ((k0_t6_loop v68 v69).OK) ∧
  (∀ k0_t6 : Fin (k0_t6_loop v68 v69).trips, ∀ a, (k0_off6 v68 v69 k0_t6) a + S1x512.size a ≤ S64x512.size a)
theorem k0_t5_ok : ∀ (v68 : BitVec 32) (v69 : BitVec 32) (k0_hw3 : k0_chk3 v68 v69), (k0_t5_loop v68 v69).OK := fun v68 v69 k0_hw3 => k0_hw3.1
theorem k0_off5_inb : ∀ (v68 : BitVec 32) (v69 : BitVec 32) (k0_hw3 : k0_chk3 v68 v69) (k0_t5 : Fin (k0_t5_loop v68 v69).trips), ∀ a, (k0_off5 v68 v69 k0_t5) a + S1x512.size a ≤ S64x512.size a := fun v68 v69 k0_hw3 k0_t5 => k0_hw3.2.1 k0_t5
theorem k0_t6_ok : ∀ (v68 : BitVec 32) (v69 : BitVec 32) (k0_hw3 : k0_chk3 v68 v69), (k0_t6_loop v68 v69).OK := fun v68 v69 k0_hw3 => k0_hw3.2.2.1
theorem k0_off6_inb : ∀ (v68 : BitVec 32) (v69 : BitVec 32) (k0_hw3 : k0_chk3 v68 v69) (k0_t6 : Fin (k0_t6_loop v68 v69).trips), ∀ a, (k0_off6 v68 v69 k0_t6) a + S1x512.size a ≤ S64x512.size a := fun v68 v69 k0_hw3 k0_t6 => k0_hw3.2.2.2 k0_t6

@[reducible] def k0_t7_loop (v80 : BitVec 32) (v81 : BitVec 32) : Scf.Loop 32 :=
  let c1_i32_56 : BitVec 32 := 1#32
  let v82 : BitVec 32 := Scalar.addi v81 c1_i32_56
  let v83 : BitVec 32 := Scalar.subi v82 v80
  let c1_i32_58 : BitVec 32 := 1#32
  let v85 : BitVec 32 := Scalar.divsi v83 c1_i32_58
  let v86 : BitVec 32 := Scalar.muli v85 c1_i32_58
  let v87 : BitVec 32 := Scalar.addi v80 v86
  let c1_i32_59 : BitVec 32 := 1#32
  ⟨v80, v87, c1_i32_59⟩

def k0_off7 (v80 : BitVec 32) (v81 : BitVec 32) (k0_t7 : Fin (k0_t7_loop v80 v81).trips) : Fin 2 → Nat :=
  let c1_i32_59 : BitVec 32 := 1#32
  let arg11 : BitVec 32 := Scf.iv v80 c1_i32_59 k0_t7
  let v110 : Index := Scalar.indexCast arg11
  let c0_72 : Index := 0#32
  ![v110.toNat, 0]
@[reducible] def k0_t8_loop (v80 : BitVec 32) (v81 : BitVec 32) : Scf.Loop 32 :=
  let c1_i32_56 : BitVec 32 := 1#32
  let v82 : BitVec 32 := Scalar.addi v81 c1_i32_56
  let v83 : BitVec 32 := Scalar.subi v82 v80
  let c1_i32_58 : BitVec 32 := 1#32
  let v85 : BitVec 32 := Scalar.divsi v83 c1_i32_58
  let v86 : BitVec 32 := Scalar.muli v85 c1_i32_58
  let v87 : BitVec 32 := Scalar.addi v80 v86
  let v84 : BitVec 32 := Scalar.addi v80 v83
  let c1_i32_60 : BitVec 32 := 1#32
  ⟨v87, v84, c1_i32_60⟩
def k0_off8 (v80 : BitVec 32) (v81 : BitVec 32) (k0_t8 : Fin (k0_t8_loop v80 v81).trips) : Fin 2 → Nat :=
  let c1_i32_56 : BitVec 32 := 1#32
  let v82 : BitVec 32 := Scalar.addi v81 c1_i32_56
  let v83 : BitVec 32 := Scalar.subi v82 v80
  let c1_i32_58 : BitVec 32 := 1#32
  let v85 : BitVec 32 := Scalar.divsi v83 c1_i32_58
  let v86 : BitVec 32 := Scalar.muli v85 c1_i32_58
  let v87 : BitVec 32 := Scalar.addi v80 v86
  let c1_i32_60 : BitVec 32 := 1#32
  let arg11 : BitVec 32 := Scf.iv v87 c1_i32_60 k0_t8
  let v110 : Index := Scalar.indexCast arg11
  let c0_72 : Index := 0#32
  ![v110.toNat, 0]

def k0_chk4 (v80 : BitVec 32) (v81 : BitVec 32) : Prop :=
  ((k0_t7_loop v80 v81).OK) ∧
  (∀ k0_t7 : Fin (k0_t7_loop v80 v81).trips, ∀ a, (k0_off7 v80 v81 k0_t7) a + S1x512.size a ≤ S64x512.size a) ∧
  ((k0_t8_loop v80 v81).OK) ∧
  (∀ k0_t8 : Fin (k0_t8_loop v80 v81).trips, ∀ a, (k0_off8 v80 v81 k0_t8) a + S1x512.size a ≤ S64x512.size a)
theorem k0_t7_ok : ∀ (v80 : BitVec 32) (v81 : BitVec 32) (k0_hw4 : k0_chk4 v80 v81), (k0_t7_loop v80 v81).OK := fun v80 v81 k0_hw4 => k0_hw4.1
theorem k0_off7_inb : ∀ (v80 : BitVec 32) (v81 : BitVec 32) (k0_hw4 : k0_chk4 v80 v81) (k0_t7 : Fin (k0_t7_loop v80 v81).trips), ∀ a, (k0_off7 v80 v81 k0_t7) a + S1x512.size a ≤ S64x512.size a := fun v80 v81 k0_hw4 k0_t7 => k0_hw4.2.1 k0_t7
theorem k0_t8_ok : ∀ (v80 : BitVec 32) (v81 : BitVec 32) (k0_hw4 : k0_chk4 v80 v81), (k0_t8_loop v80 v81).OK := fun v80 v81 k0_hw4 => k0_hw4.2.2.1
theorem k0_off8_inb : ∀ (v80 : BitVec 32) (v81 : BitVec 32) (k0_hw4 : k0_chk4 v80 v81) (k0_t8 : Fin (k0_t8_loop v80 v81).trips), ∀ a, (k0_off8 v80 v81 k0_t8) a + S1x512.size a ≤ S64x512.size a := fun v80 v81 k0_hw4 k0_t8 => k0_hw4.2.2.2 k0_t8

@[reducible] def k0_t9_loop (v92 : BitVec 32) (v93 : BitVec 32) : Scf.Loop 32 :=
  let c1_i32_65 : BitVec 32 := 1#32
  let v94 : BitVec 32 := Scalar.addi v93 c1_i32_65
  let v95 : BitVec 32 := Scalar.subi v94 v92
  let c1_i32_67 : BitVec 32 := 1#32
  let v97 : BitVec 32 := Scalar.divsi v95 c1_i32_67
  let v98 : BitVec 32 := Scalar.muli v97 c1_i32_67
  let v99 : BitVec 32 := Scalar.addi v92 v98
  let c1_i32_68 : BitVec 32 := 1#32
  ⟨v92, v99, c1_i32_68⟩

def k0_off9 (v92 : BitVec 32) (v93 : BitVec 32) (k0_t9 : Fin (k0_t9_loop v92 v93).trips) : Fin 2 → Nat :=
  let c1_i32_68 : BitVec 32 := 1#32
  let arg11 : BitVec 32 := Scf.iv v92 c1_i32_68 k0_t9
  let v110 : Index := Scalar.indexCast arg11
  let c0_72 : Index := 0#32
  ![v110.toNat, 0]
@[reducible] def k0_t10_loop (v92 : BitVec 32) (v93 : BitVec 32) : Scf.Loop 32 :=
  let c1_i32_65 : BitVec 32 := 1#32
  let v94 : BitVec 32 := Scalar.addi v93 c1_i32_65
  let v95 : BitVec 32 := Scalar.subi v94 v92
  let c1_i32_67 : BitVec 32 := 1#32
  let v97 : BitVec 32 := Scalar.divsi v95 c1_i32_67
  let v98 : BitVec 32 := Scalar.muli v97 c1_i32_67
  let v99 : BitVec 32 := Scalar.addi v92 v98
  let v96 : BitVec 32 := Scalar.addi v92 v95
  let c1_i32_69 : BitVec 32 := 1#32
  ⟨v99, v96, c1_i32_69⟩
def k0_off10 (v92 : BitVec 32) (v93 : BitVec 32) (k0_t10 : Fin (k0_t10_loop v92 v93).trips) : Fin 2 → Nat :=
  let c1_i32_65 : BitVec 32 := 1#32
  let v94 : BitVec 32 := Scalar.addi v93 c1_i32_65
  let v95 : BitVec 32 := Scalar.subi v94 v92
  let c1_i32_67 : BitVec 32 := 1#32
  let v97 : BitVec 32 := Scalar.divsi v95 c1_i32_67
  let v98 : BitVec 32 := Scalar.muli v97 c1_i32_67
  let v99 : BitVec 32 := Scalar.addi v92 v98
  let c1_i32_69 : BitVec 32 := 1#32
  let arg11 : BitVec 32 := Scf.iv v99 c1_i32_69 k0_t10
  let v110 : Index := Scalar.indexCast arg11
  let c0_72 : Index := 0#32
  ![v110.toNat, 0]

def k0_chk5 (v92 : BitVec 32) (v93 : BitVec 32) : Prop :=
  ((k0_t9_loop v92 v93).OK) ∧
  (∀ k0_t9 : Fin (k0_t9_loop v92 v93).trips, ∀ a, (k0_off9 v92 v93 k0_t9) a + S1x512.size a ≤ S64x512.size a) ∧
  ((k0_t10_loop v92 v93).OK) ∧
  (∀ k0_t10 : Fin (k0_t10_loop v92 v93).trips, ∀ a, (k0_off10 v92 v93 k0_t10) a + S1x512.size a ≤ S64x512.size a)
theorem k0_t9_ok : ∀ (v92 : BitVec 32) (v93 : BitVec 32) (k0_hw5 : k0_chk5 v92 v93), (k0_t9_loop v92 v93).OK := fun v92 v93 k0_hw5 => k0_hw5.1
theorem k0_off9_inb : ∀ (v92 : BitVec 32) (v93 : BitVec 32) (k0_hw5 : k0_chk5 v92 v93) (k0_t9 : Fin (k0_t9_loop v92 v93).trips), ∀ a, (k0_off9 v92 v93 k0_t9) a + S1x512.size a ≤ S64x512.size a := fun v92 v93 k0_hw5 k0_t9 => k0_hw5.2.1 k0_t9
theorem k0_t10_ok : ∀ (v92 : BitVec 32) (v93 : BitVec 32) (k0_hw5 : k0_chk5 v92 v93), (k0_t10_loop v92 v93).OK := fun v92 v93 k0_hw5 => k0_hw5.2.2.1
theorem k0_off10_inb : ∀ (v92 : BitVec 32) (v93 : BitVec 32) (k0_hw5 : k0_chk5 v92 v93) (k0_t10 : Fin (k0_t10_loop v92 v93).trips), ∀ a, (k0_off10 v92 v93 k0_t10) a + S1x512.size a ≤ S64x512.size a := fun v92 v93 k0_hw5 k0_t10 => k0_hw5.2.2.2 k0_t10

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .smem S1x1x10 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S50000x512 : Shape := ⟨2, ![50000, 512]⟩
abbrev S50000 : Shape := ⟨1, ![50000]⟩
abbrev S512x512 : Shape := ⟨2, ![512, 512]⟩
abbrev S512 : Shape := ⟨1, ![512]⟩
abbrev S1024x512 : Shape := ⟨2, ![1024, 512]⟩
abbrev S1x512 : Shape := ⟨2, ![1, 512]⟩
abbrev S_ : Shape := ⟨0, ![]⟩
abbrev S64x512 : Shape := ⟨2, ![64, 512]⟩
abbrev S50000x1 : Shape := ⟨2, ![50000, 1]⟩
abbrev S64x1 : Shape := ⟨2, ![64, 1]⟩
abbrev S64 : Shape := ⟨1, ![64]⟩
abbrev S1x64 : Shape := ⟨2, ![1, 64]⟩
abbrev S50000x64 : Shape := ⟨2, ![50000, 64]⟩
abbrev S50000x64x1 : Shape := ⟨3, ![50000, 64, 1]⟩
abbrev S50000x1x512 : Shape := ⟨3, ![50000, 1, 512]⟩
abbrev S50000x64x512 : Shape := ⟨3, ![50000, 64, 512]⟩
abbrev S64x1024 : Shape := ⟨2, ![64, 1024]⟩

abbrev nBuf : Space → Nat
  | .hbm => 86
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1024x512, .f32⟩
  | .hbm, ⟨7, _⟩ => ⟨S512, .f32⟩
  | .hbm, ⟨8, _⟩ => ⟨S50000x512, .f32⟩
  | .hbm, ⟨9, _⟩ => ⟨S1x512, .f32⟩
  | .hbm, ⟨10, _⟩ => ⟨S50000x512, .f32⟩
  | .hbm, ⟨11, _⟩ => ⟨S50000x512, .f32⟩
  | .hbm, ⟨12, _⟩ => ⟨S_, .f32⟩
  | .hbm, ⟨13, _⟩ => ⟨S_, .f32⟩
  | .hbm, ⟨14, _⟩ => ⟨S50000x512, .f32⟩
  | .hbm, ⟨15, _⟩ => ⟨S50000x512, .i1⟩
  | .hbm, ⟨16, _⟩ => ⟨S_, .f32⟩
  | .hbm, ⟨17, _⟩ => ⟨S50000x512, .f32⟩
  | .hbm, ⟨18, _⟩ => ⟨S50000x512, .f32⟩
  | .hbm, ⟨19, _⟩ => ⟨S50000x512, .f32⟩
  | .hbm, ⟨20, _⟩ => ⟨S50000x512, .f32⟩
  | .hbm, ⟨21, _⟩ => ⟨S1x512, .f32⟩
  | .hbm, ⟨22, _⟩ => ⟨S50000x512, .f32⟩
  | .hbm, ⟨23, _⟩ => ⟨S50000x512, .f32⟩
  | .hbm, ⟨24, _⟩ => ⟨S_, .f32⟩
  | .hbm, ⟨25, _⟩ => ⟨S64x512, .f32⟩
  | .hbm, ⟨26, _⟩ => ⟨S50000x1, .i32⟩
  | .hbm, ⟨27, _⟩ => ⟨S64x512, .f32⟩
  | .hbm, ⟨28, _⟩ => ⟨S_, .f32⟩
  | .hbm, ⟨29, _⟩ => ⟨S50000x1, .f32⟩
  | .hbm, ⟨30, _⟩ => ⟨S_, .f32⟩
  | .hbm, ⟨31, _⟩ => ⟨S64x1, .f32⟩
  | .hbm, ⟨32, _⟩ => ⟨S50000x1, .i32⟩
  | .hbm, ⟨33, _⟩ => ⟨S64x1, .f32⟩
  | .hbm, ⟨34, _⟩ => ⟨S_, .f32⟩
  | .hbm, ⟨35, _⟩ => ⟨S64x1, .f32⟩
  | .hbm, ⟨36, _⟩ => ⟨S64x1, .f32⟩
  | .hbm, ⟨37, _⟩ => ⟨S64x512, .f32⟩
  | .hbm, ⟨38, _⟩ => ⟨S64x512, .f32⟩
  | .hbm, ⟨39, _⟩ => ⟨S50000x1, .i32⟩
  | .hbm, ⟨40, _⟩ => ⟨S64, .i32⟩
  | .hbm, ⟨41, _⟩ => ⟨S1x64, .i32⟩
  | .hbm, ⟨42, _⟩ => ⟨S50000x64, .i32⟩
  | .hbm, ⟨43, _⟩ => ⟨S50000x64, .i32⟩
  | .hbm, ⟨44, _⟩ => ⟨S50000x64, .i1⟩
  | .hbm, ⟨45, _⟩ => ⟨S50000x64x1, .i1⟩
  | .hbm, ⟨46, _⟩ => ⟨S50000x1x512, .f32⟩
  | .hbm, ⟨47, _⟩ => ⟨S_, .f32⟩
  | .hbm, ⟨48, _⟩ => ⟨S_, .f32⟩
  | .hbm, ⟨49, _⟩ => ⟨S50000x64x512, .i1⟩
  | .hbm, ⟨50, _⟩ => ⟨S50000x64x512, .f32⟩
  | .hbm, ⟨51, _⟩ => ⟨S50000x64x512, .f32⟩
  | .hbm, ⟨52, _⟩ => ⟨S50000x64x512, .f32⟩
  | .hbm, ⟨53, _⟩ => ⟨S_, .f32⟩
  | .hbm, ⟨54, _⟩ => ⟨S64x512, .f32⟩
  | .hbm, ⟨55, _⟩ => ⟨S_, .f32⟩
  | .hbm, ⟨56, _⟩ => ⟨S64x1, .f32⟩
  | .hbm, ⟨57, _⟩ => ⟨S64x1, .i1⟩
  | .hbm, ⟨58, _⟩ => ⟨S_, .f32⟩
  | .hbm, ⟨59, _⟩ => ⟨S_, .f32⟩
  | .hbm, ⟨60, _⟩ => ⟨S64x512, .i1⟩
  | .hbm, ⟨61, _⟩ => ⟨S64x512, .f32⟩
  | .hbm, ⟨62, _⟩ => ⟨S64x512, .f32⟩
  | .hbm, ⟨63, _⟩ => ⟨S64x1024, .f32⟩
  | .hbm, ⟨64, _⟩ => ⟨S64x512, .f32⟩
  | .hbm, ⟨65, _⟩ => ⟨S1x512, .f32⟩
  | .hbm, ⟨66, _⟩ => ⟨S64x512, .f32⟩
  | .hbm, ⟨67, _⟩ => ⟨S64x512, .f32⟩
  | .hbm, ⟨68, _⟩ => ⟨S64x512, .f32⟩
  | .hbm, ⟨69, _⟩ => ⟨S64x512, .f32⟩
  | .hbm, ⟨70, _⟩ => ⟨S_, .f32⟩
  | .hbm, ⟨71, _⟩ => ⟨S64x512, .f32⟩
  | .hbm, ⟨72, _⟩ => ⟨S64x512, .f32⟩
  | .hbm, ⟨73, _⟩ => ⟨S_, .f32⟩
  | .hbm, ⟨74, _⟩ => ⟨S64x512, .f32⟩
  | .hbm, ⟨75, _⟩ => ⟨S64x512, .f32⟩
  | .hbm, ⟨76, _⟩ => ⟨S_, .i32⟩
  | .hbm, ⟨77, _⟩ => ⟨S50000, .i32⟩
  | .hbm, ⟨78, _⟩ => ⟨S50000, .i1⟩
  | .hbm, ⟨79, _⟩ => ⟨S_, .i32⟩
  | .hbm, ⟨80, _⟩ => ⟨S50000, .i32⟩
  | .hbm, ⟨81, _⟩ => ⟨S50000, .i32⟩
  | .hbm, ⟨82, _⟩ => ⟨S50000, .i32⟩
  | .hbm, ⟨83, _⟩ => ⟨S50000x1, .i32⟩
  | .hbm, ⟨84, _⟩ => ⟨S50000x512, .f32⟩
  | .hbm, ⟨85, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_v31 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_8 : Ref sig .tc := ⟨.hbm, 70, rfl⟩
abbrev main_v40 : Ref sig .tc := ⟨.hbm, 71, rfl⟩
abbrev main_v41 : Ref sig .tc := ⟨.hbm, 72, rfl⟩
abbrev main_cst_9 : Ref sig .tc := ⟨.hbm, 73, rfl⟩
abbrev main_v42 : Ref sig .tc := ⟨.hbm, 74, rfl⟩
abbrev main_v43 : Ref sig .tc := ⟨.hbm, 75, rfl⟩
abbrev main_c : Ref sig .tc := ⟨.hbm, 76, rfl⟩
abbrev main_v44 : Ref sig .tc := ⟨.hbm, 77, rfl⟩
abbrev main_v45 : Ref sig .tc := ⟨.hbm, 78, rfl⟩
abbrev main_c_10 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩

abbrev nD : Nat := 1
abbrev τ : Topo := Topo.v7x

variable {F : FTy → Type} [FloatOps F]
-- ==== Proof.KernelIdeal.Rows.lean ====
module

public import proofs.«01_k».proof.Proof.Gen.KernelIdeal.Loops
public import Idealize.ShloMosaic.Lib.VecWindow
public import Idealize.ShloMosaic.Lib.WordArith
public import Idealize.ShloMosaic.Lib.Pointwise.Index

/-!
The row loops of the first pass as pure functions: one trip replaces one row of the running
maximum, and a counted loop is the fold of its trips.
-/

@[expose] public section

set_option maxRecDepth 8192

noncomputable section

namespace Cert.KernelIdeal.Hand

open Cert.KernelIdeal Cert.KernelIdeal.Gen
open Idealize.ShloMosaic Idealize.ShloMosaic.TcCoe Idealize.SL.Sem

variable {F : FTy → Type} [FloatOps F]

/-- The row a trip stores: the old row joined with the maximum of the rows of `l` whose group word in `b` is `g`. -/
def rowMax (l : FVec F S400x512 .f32) (b : IVec S400x1 32) (g : BitVec 32) (row : Vec F S1x512 .f32) : FVec F S1x512 .f32 :=
  maximumf (shapeCast S1x512 row shapeCasts_S1x512_S1x512)
    (shapeCast S1x512
      (multiReduction .maximumf [0] S512
        (select (broadcastTo S400x512 (shapeCast S400x1 (cmpi .eq b (broadcast S400x1 g)) shapeCasts_S400x1_S400x1) broadcasts_S400x1_S400x512)
          l (broadcast S400x512 (Scalar.ofBits .f32 0xFF800000#32)))
        0xFF800000#32 reduces_S400x512_S512 (.inl rfl) rfl)
      shapeCasts_S512_S1x512)

/-- One trip on the whole running maximum: row `g` becomes `rowMax`, the other rows stay. -/
def stepRow (l : FVec F S400x512 .f32) (b : IVec S400x1 32) (g : BitVec 32) (M : Vec F S64x512 .f32) : Vec F S64x512 .f32 :=
  fun j => if (j 0).val = g.toNat then rowMax l b g (fun y => M (ix2 (j 0) (y 1))) (ix2 0 (j 1)) else M j

/-- The first `k` trips of a row loop that starts at group `first`. -/
def maxLoop (l : FVec F S400x512 .f32) (b : IVec S400x1 32) (first : BitVec 32) : ℕ → Vec F S64x512 .f32 → Vec F S64x512 .f32
  | 0, M => M
  | k + 1, M => stepRow l b (Scf.iv first 1#32 k) (maxLoop l b first k M)

/-- Reading back a list of row stores that grows by one store per trip gives the fold of the trips. -/
theorem read_rows (v : View sig .tc .vmem S64x512 .f32) (G : v.ty.Contents (Elt F)) (l : FVec F S400x512 .f32) (b : IVec S400x1 32)
    (first : BitVec 32) (n : ℕ) (off : Fin n → Fin 2 → ℕ) (inb : ∀ k a, off k a + S1x512.size a ≤ S64x512.size a)
    (hoff : ∀ k, off k = ![(Scf.iv first 1#32 k.val).toNat, 0]) (L : ℕ → List (View.Piece (Elt F) S64x512 .f32)) (h0 : L 0 = [])
    (hs : ∀ k : Fin n, L (k.val + 1) = ⟨Rect.unit (s := S64x512) (off k) S1x512.size (inb k),
      rowMax l b (Scf.iv first 1#32 k.val)
        (v.readAt (Elt F) (Rect.unit (s := S64x512) (off k) S1x512.size (inb k)).toLoadRect (v.writes (Elt F) G (L k.val)))⟩ :: L k.val) :
    ∀ k, k ≤ n → v.read (Elt F) (v.writes (Elt F) G (L k)) = maxLoop l b first k (v.read (Elt F) G)
  | 0, _ => by rw [h0]; rfl
  | k + 1, hk => by
    have ih := read_rows v G l b first n off inb hoff L h0 hs k (by omega)
    rw [hs ⟨k, hk⟩]
    show _ = stepRow l b (Scf.iv first 1#32 k) (maxLoop l b first k (v.read (Elt F) G))
    rw [← ih]
    funext y
    unfold stepRow
    by_cases hy : (y 0).val = (Scf.iv first 1#32 k).toNat
    · rw [if_pos hy]
      rw [View.read_writes_cons_unit_of_mem v G (inb ⟨k, hk⟩) _ (L k) y (ix2 0 (y 1)) (hoff ⟨k, hk⟩)
        (Fin.forall_fin_two.mpr ⟨by simpa using hy, by simp⟩)]
      congr 1
      funext z
      show v.read (Elt F) _ _ = v.read (Elt F) _ _
      congr 1
      funext a
      refine Fin.ext ?_
      refine (congrArg (· + 1 * (z a).val) (congrFun (hoff ⟨k, hk⟩) a)).trans ?_
      revert a
      refine Fin.forall_fin_two.mpr ⟨?_, ?_⟩
      · have hz : (z 0).val = 0 := Nat.lt_one_iff.mp (z 0).isLt
        show (Scf.iv first 1#32 k).toNat + 1 * (z 0).val = (y 0).val
        omega
      · show 0 + 1 * (z 1).val = (z 1).val
        omega
    · rw [if_neg hy]
      rw [View.read_writes_cons_unit_of_not_mem v G (inb ⟨k, hk⟩) _ (L k) y (hoff ⟨k, hk⟩) 0 (by simp; omega)]

/-- A loop from the end of a loop of `x` unit steps up to `a + x` makes no trip. -/
theorem no_trips (a x : BitVec 32) :
    Scf.trips (Scalar.addi a (Scalar.muli (Scalar.divsi x 1#32) 1#32)) (Scalar.addi a x) 1#32 = 0 := by
  have h : Scalar.muli (Scalar.divsi x 1#32) 1#32 = x := by
    simp only [Scalar.muli, Scalar.divsi, IntOp.muli, WordArith.divsi_one, BitVec.mul_one]
  have h1 : (1#32 : BitVec 32).toInt = 1 := by decide
  rw [h]
  unfold Scf.trips
  rw [h1]
  omega

section Loops

variable (𝒱 : Variants) (c : Dev nD) (bd : Option 𝒱.V) (i : grid0.Coords)
  (arg1 : Memref sig .tc .smem S1x1x10 .i32) (harg1 : arg1.IsWhole) (arg2 : Memref sig .tc .vmem S2000x1 .i32) (harg2 : arg2.IsWhole)
  (arg3 : Memref sig .tc .vmem S2000x512 .f32) (harg3 : arg3.IsWhole) (arg4 : Memref sig .tc .vmem S512x512 .f32) (harg4 : arg4.IsWhole)
  (arg5 : Memref sig .tc .vmem S1x512 .f32) (harg5 : arg5.IsWhole) (arg6 : Memref sig .tc .vmem S512x512 .f32) (harg6 : arg6.IsWhole)
  (arg7 : Memref sig .tc .vmem S1x512 .f32) (harg7 : arg7.IsWhole) (arg8 : Memref sig .tc .vmem S64x512 .f32) (harg8 : arg8.IsWhole)
  (arg9 : Memref sig .tc .vmem S64x128 .f32) (harg9 : arg9.IsWhole) (arg10 : Memref sig .tc .vmem S64x512 .f32) (harg10 : arg10.IsWhole)
  (G : BufTy.Contents (Elt F) arg10.view.ty) (init : BitVec 32) (v20 : FVec F S2000x512 .f32) (v22 : IVec S2000x1 32) (v27 : FVec F S2000x64 .f32)
  (v54 : FVec F S400x512 .f32) (v55 : IVec S400x1 32) (v63 v64 : BitVec 32)

/-- The first chunk's row loop leaves the fold of its trips. -/
theorem read_t1 (v44 v45 : BitVec 32) (hw : k0_chk1 v44 v45) :
    arg10.view.read (Elt F) (arg10.view.writes (Elt F) G (st_k0_t1 (F := F) 𝒱 c bd i arg1 harg1 arg2 harg2 arg3 harg3 arg4 harg4 arg5 harg5 arg6 harg6 arg7 harg7 arg8 harg8 arg9 harg9 arg10 harg10 v20 v22 v27 v44 v45 hw G init (k0_t1_loop v44 v45).trips).2)
      = maxLoop (k0_pay11 v20) (k0_pay12 v22) v44 (k0_t1_loop v44 v45).trips (arg10.view.read (Elt F) G) := by
  refine read_rows arg10.view G _ _ v44 _ (k0_off1 v44 v45) (k0_off1_inb v44 v45 hw) (fun k => rfl)
    (fun k => (st_k0_t1 (F := F) 𝒱 c bd i arg1 harg1 arg2 harg2 arg3 harg3 arg4 harg4 arg5 harg5 arg6 harg6 arg7 harg7 arg8 harg8 arg9 harg9 arg10 harg10 v20 v22 v27 v44 v45 hw G init k).2) rfl (fun k => ?_) _ le_rfl
  dsimp only
  rw [st_k0_t1_succ]
  unfold tripL_k0_t1 trip_k0_t1
  rfl

/-- The remainder loop after it makes no trip, so it stores nothing. -/
theorem read_t2 (v44 v45 : BitVec 32) (hw : k0_chk1 v44 v45) :
    arg10.view.read (Elt F) (arg10.view.writes (Elt F) G (st_k0_t2 (F := F) 𝒱 c bd i arg1 harg1 arg2 harg2 arg3 harg3 arg4 harg4 arg5 harg5 arg6 harg6 arg7 harg7 arg8 harg8 arg9 harg9 arg10 harg10 v20 v22 v27 v44 v45 hw G init (k0_t2_loop v44 v45).trips).2)
      = arg10.view.read (Elt F) G := by
  rw [show (k0_t2_loop v44 v45).trips = 0 from no_trips v44 (Scalar.subi (Scalar.addi v45 1#32) v44)]
  rfl

/-- The second chunk's row loop leaves the fold of its trips. -/
theorem read_t3 (v56 v57 : BitVec 32) (hw : k0_chk2 v56 v57) :
    arg10.view.read (Elt F) (arg10.view.writes (Elt F) G (st_k0_t3 (F := F) 𝒱 c bd i arg1 harg1 arg2 harg2 arg3 harg3 arg4 harg4 arg5 harg5 arg6 harg6 arg7 harg7 arg8 harg8 arg9 harg9 arg10 harg10 v20 v22 v27 v56 v57 hw G init (k0_t3_loop v56 v57).trips).2)
      = maxLoop (k0_pay15 v20) (k0_pay16 v22) v56 (k0_t3_loop v56 v57).trips (arg10.view.read (Elt F) G) := by
  refine read_rows arg10.view G _ _ v56 _ (k0_off3 v56 v57) (k0_off3_inb v56 v57 hw) (fun k => rfl)
    (fun k => (st_k0_t3 (F := F) 𝒱 c bd i arg1 harg1 arg2 harg2 arg3 harg3 arg4 harg4 arg5 harg5 arg6 harg6 arg7 harg7 arg8 harg8 arg9 harg9 arg10 harg10 v20 v22 v27 v56 v57 hw G init k).2) rfl (fun k => ?_) _ le_rfl
  dsimp only
  rw [st_k0_t3_succ]
  unfold tripL_k0_t3 trip_k0_t3
  rfl

/-- The remainder loop after it makes no trip, so it stores nothing. -/
theorem read_t4 (v56 v57 : BitVec 32) (hw : k0_chk2 v56 v57) :
    arg10.view.read (Elt F) (arg10.view.writes (Elt F) G (st_k0_t4 (F := F) 𝒱 c bd i arg1 harg1 arg2 harg2 arg3 harg3 arg4 harg4 arg5 harg5 arg6 harg6 arg7 harg7 arg8 harg8 arg9 harg9 arg10 harg10 v20 v22 v54 v55 v56 v57 hw v63 v64 G init (k0_t4_loop v56 v57).trips).2)
      = arg10.view.read (Elt F) G := by
  rw [show (k0_t4_loop v56 v57).trips = 0 from no_trips v56 (Scalar.subi (Scalar.addi v57 1#32) v56)]
  rfl

/-- The third chunk's row loop leaves the fold of its trips. -/
theorem read_t5 (v56 v57 : BitVec 32) (hw2 : k0_chk2 v56 v57) (v68 v69 : BitVec 32) (hw : k0_chk3 v68 v69) :
    arg10.view.read (Elt F) (arg10.view.writes (Elt F) G (st_k0_t5 (F := F) 𝒱 c bd i arg1 harg1 arg2 harg2 arg3 harg3 arg4 harg4 arg5 harg5 arg6 harg6 arg7 harg7 arg8 harg8 arg9 harg9 arg10 harg10 v20 v22 v54 v55 v56 v57 hw2 v63 v64 v68 v69 hw G init (k0_t5_loop v68 v69).trips).2)
      = maxLoop (k0_pay19 v20) (k0_pay20 v22) v68 (k0_t5_loop v68 v69).trips (arg10.view.read (Elt F) G) := by
  refine read_rows arg10.view G _ _ v68 _ (k0_off5 v68 v69) (k0_off5_inb v68 v69 hw) (fun k => rfl)
    (fun k => (st_k0_t5 (F := F) 𝒱 c bd i arg1 harg1 arg2 harg2 arg3 harg3 arg4 harg4 arg5 harg5 arg6 harg6 arg7 harg7 arg8 harg8 arg9 harg9 arg10 harg10 v20 v22 v54 v55 v56 v57 hw2 v63 v64 v68 v69 hw G init k).2) rfl (fun k => ?_) _ le_rfl
  dsimp only
  rw [st_k0_t5_succ]
  unfold tripL_k0_t5 trip_k0_t5
  rfl

/-- The remainder loop after it makes no trip, so it stores nothing. -/
theorem read_t6 (v56 v57 : BitVec 32) (hw2 : k0_chk2 v56 v57) (v68 v69 : BitVec 32) (hw : k0_chk3 v68 v69) :
    arg10.view.read (Elt F) (arg10.view.writes (Elt F) G (st_k0_t6 (F := F) 𝒱 c bd i arg1 harg1 arg2 harg2 arg3 harg3 arg4 harg4 arg5 harg5 arg6 harg6 arg7 harg7 arg8 harg8 arg9 harg9 arg10 harg10 v20 v22 v54 v55 v56 v57 hw2 v63 v64 v68 v69 hw G init (k0_t6_loop v68 v69).trips).2)
      = arg10.view.read (Elt F) G := by
  rw [show (k0_t6_loop v68 v69).trips = 0 from no_trips v68 (Scalar.subi (Scalar.addi v69 1#32) v68)]
  rfl

/-- The fourth chunk's row loop leaves the fold of its trips. -/
theorem read_t7 (v56 v57 : BitVec 32) (hw2 : k0_chk2 v56 v57) (v80 v81 : BitVec 32) (hw : k0_chk4 v80 v81) :
    arg10.view.read (Elt F) (arg10.view.writes (Elt F) G (st_k0_t7 (F := F) 𝒱 c bd i arg1 harg1 arg2 harg2 arg3 harg3 arg4 harg4 arg5 harg5 arg6 harg6 arg7 harg7 arg8 harg8 arg9 harg9 arg10 harg10 v20 v22 v54 v55 v56 v57 hw2 v63 v64 v80 v81 hw G init (k0_t7_loop v80 v81).trips).2)
      = maxLoop (k0_pay23 v20) (k0_pay24 v22) v80 (k0_t7_loop v80 v81).trips (arg10.view.read (Elt F) G) := by
  refine read_rows arg10.view G _ _ v80 _ (k0_off7 v80 v81) (k0_off7_inb v80 v81 hw) (fun k => rfl)
    (fun k => (st_k0_t7 (F := F) 𝒱 c bd i arg1 harg1 arg2 harg2 arg3 harg3 arg4 harg4 arg5 harg5 arg6 harg6 arg7 harg7 arg8 harg8 arg9 harg9 arg10 harg10 v20 v22 v54 v55 v56 v57 hw2 v63 v64 v80 v81 hw G init k).2) rfl (fun k => ?_) _ le_rfl
  dsimp only
  rw [st_k0_t7_succ]
  unfold tripL_k0_t7 trip_k0_t7
  rfl

/-- The remainder loop after it makes no trip, so it stores nothing. -/
theorem read_t8 (v56 v57 : BitVec 32) (hw2 : k0_chk2 v56 v57) (v80 v81 : BitVec 32) (hw : k0_chk4 v80 v81) :
    arg10.view.read (Elt F) (arg10.view.writes (Elt F) G (st_k0_t8 (F := F) 𝒱 c bd i arg1 harg1 arg2 harg2 arg3 harg3 arg4 harg4 arg5 harg5 arg6 harg6 arg7 harg7 arg8 harg8 arg9 harg9 arg10 harg10 v20 v22 v54 v55 v56 v57 hw2 v63 v64 v80 v81 hw G init (k0_t8_loop v80 v81).trips).2)
      = arg10.view.read (Elt F) G := by
  rw [show (k0_t8_loop v80 v81).trips = 0 from no_trips v80 (Scalar.subi (Scalar.addi v81 1#32) v80)]
  rfl

/-- The fifth chunk's row loop leaves the fold of its trips. -/
theorem read_t9 (v90 : FVec F S400x512 .f32) (v91 : IVec S400x1 32) (v92 v93 : BitVec 32) (hw : k0_chk5 v92 v93) :
    arg10.view.read (Elt F) (arg10.view.writes (Elt F) G (st_k0_t9 (F := F) 𝒱 c bd i arg1 harg1 arg2 harg2 arg3 harg3 arg4 harg4 arg5 harg5 arg6 harg6 arg7 harg7 arg8 harg8 arg9 harg9 arg10 harg10 v90 v91 v92 v93 hw G init (k0_t9_loop v92 v93).trips).2)
      = maxLoop (v90) (v91) v92 (k0_t9_loop v92 v93).trips (arg10.view.read (Elt F) G) := by
  refine read_rows arg10.view G _ _ v92 _ (k0_off9 v92 v93) (k0_off9_inb v92 v93 hw) (fun k => rfl)
    (fun k => (st_k0_t9 (F := F) 𝒱 c bd i arg1 harg1 arg2 harg2 arg3 harg3 arg4 harg4 arg5 harg5 arg6 harg6 arg7 harg7 arg8 harg8 arg9 harg9 arg10 harg10 v90 v91 v92 v93 hw G init k).2) rfl (fun k => ?_) _ le_rfl
  dsimp only
  rw [st_k0_t9_succ]
  unfold tripL_k0_t9 trip_k0_t9
  rfl

/-- The remainder loop after it makes no trip, so it stores nothing. -/
theorem read_t10 (v90 : FVec F S400x512 .f32) (v91 : IVec S400x1 32) (v92 v93 : BitVec 32) (hw : k0_chk5 v92 v93) :
    arg10.view.read (Elt F) (arg10.view.writes (Elt F) G (st_k0_t10 (F := F) 𝒱 c bd i arg1 harg1 arg2 harg2 arg3 harg3 arg4 harg4 arg5 harg5 arg6 harg6 arg7 harg7 arg8 harg8 arg9 harg9 arg10 harg10 v90 v91 v92 v93 hw G init (k0_t10_loop v92 v93).trips).2)
      = arg10.view.read (Elt F) G := by
  rw [show (k0_t10_loop v92 v93).trips = 0 from no_trips v92 (Scalar.subi (Scalar.addi v93 1#32) v92)]
  rfl

end Loops

end Cert.KernelIdeal.Hand
-- ==== Proof.KernelIdeal.Pass1.lean ====
module

public import proofs.«01_k».proof.Proof.KernelIdeal.Rows
public import proofs.«01_k».proof.Proof.Gen.KernelIdeal.Points
public import Idealize.ShloMosaic.Lib.Pipeline.FrameBody
public import Idealize.ShloMosaic.Lib.Pipeline.Value
public import Idealize.ShloMosaic.Lib.Tactic
public import Idealize.ShloMosaic.Lib.WordCmp
public import proofs.«01_k».proof.Proof.Gen.KernelIdeal.Launch

/-!
The body of the first pass, run once: what it leaves in its three outputs as functions of its blocks.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two offsets of a whole block are zero. -/
theorem hz : (![0, 0] : Fin 2 → Nat) = fun _ => 0 := funext fun a => by fin_cases a <;> rfl

/-- Word `k` of a row of limits. -/
def lim (x : Vec F S1x1x10 .i32) (k : Fin 10) : BitVec 32 := x (ix3 0 0 k)

/-- The body's side conditions on its row of limits. -/
structure Lims (x : Vec F S1x1x10 .i32) : Prop where
  c1 : k0_chk1 (lim x 0) (lim x 1)
  c2 : k0_chk2 (lim x 2) (lim x 3)
  c3 : k0_chk3 (lim x 4) (lim x 5)
  c4 : k0_chk4 (lim x 6) (lim x 7)
  c5 : k0_chk5 (lim x 8) (lim x 9)

/-- A word load of the row of limits reads its word. -/
theorem lim_read (v : View sig .tc .smem S1x1x10 .i32) (f : v.ty.Contents (Elt F)) (k : Fin 10) (inb) (h : 0 < S1x1x1.numel) :
    v.readAt (Elt F) (Rect.unit (s := S1x1x10) ![0, 0, k.val] S1x1x1.size inb).toLoadRect f (Shape.Idx.first h) = lim (v.read (Elt F) f) k := by
  show v.read (Elt F) f _ = v.read (Elt F) f _
  congr 1
  funext a
  fin_cases a <;> rfl

/-- A word of the row of limits, read through the load's box. -/
theorem lim_ld (x : Vec F S1x1x10 .i32) (n : ℕ) (hn : n < 10) (inb) (h : 0 < S1x1x1.numel) :
    View.ld x (Rect.unit (s := S1x1x10) ![0, 0, n] ![1, 1, 1] inb) (Shape.Idx.first h) = lim x ⟨n, hn⟩ := by
  show x _ = x _
  congr 1
  funext a
  fin_cases a <;> rfl

/-- A whole block stored reads back. -/
theorem read_reset (v : View sig .tc .vmem S64x512 .f32) (f : v.ty.Contents (Elt F)) (w : Vec F S64x512 .f32) (inb) :
    v.read (Elt F) (v.writes (Elt F) f [⟨Rect.unit (s := S64x512) ![0, 0] ![64, 512] inb, w⟩]) = w :=
  View.read_writes_full v f inb w []

/-- The running sums after a block. -/
def sumStep (b : Vec F S2000x1 .i32) (x : Vec F S2000x512 .f32) (W1 : Vec F S512x512 .f32) (b1 : Vec F S1x512 .f32) (W2 : Vec F S512x512 .f32) (b2 : Vec F S1x512 .f32)
    (s : Vec F S64x512 .f32) : Vec F S64x512 .f32 := k0_pay9 x W1 b1 W2 b2 b s

/-- The running counts after a block. -/
def cntStep (b : Vec F S2000x1 .i32) (n : Vec F S64x128 .f32) : Vec F S64x128 .f32 := k0_pay10 (k0_pay8 b) n

/-- The running maxima after a block: the five chunks' row loops in order. -/
def maxStep (lims : Vec F S1x1x10 .i32) (b : Vec F S2000x1 .i32) (x : Vec F S2000x512 .f32) (W1 : Vec F S512x512 .f32) (b1 : Vec F S1x512 .f32)
    (W2 : Vec F S512x512 .f32) (b2 : Vec F S1x512 .f32) (M : Vec F S64x512 .f32) : Vec F S64x512 .f32 :=
  maxLoop (k0_pay27 (k0_pay6 x W1 b1 W2 b2)) (k0_pay28 (k0_pay7 (F := F) b)) (lim lims 8) (k0_t9_loop (lim lims 8) (lim lims 9)).trips
  (maxLoop (k0_pay23 (k0_pay6 x W1 b1 W2 b2)) (k0_pay24 (k0_pay7 (F := F) b)) (lim lims 6) (k0_t7_loop (lim lims 6) (lim lims 7)).trips
  (maxLoop (k0_pay19 (k0_pay6 x W1 b1 W2 b2)) (k0_pay20 (k0_pay7 (F := F) b)) (lim lims 4) (k0_t5_loop (lim lims 4) (lim lims 5)).trips
  (maxLoop (k0_pay15 (k0_pay6 x W1 b1 W2 b2)) (k0_pay16 (k0_pay7 (F := F) b)) (lim lims 2) (k0_t3_loop (lim lims 2) (lim lims 3)).trips
  (maxLoop (k0_pay11 (k0_pay6 x W1 b1 W2 b2)) (k0_pay12 (k0_pay7 (F := F) b)) (lim lims 0) (k0_t1_loop (lim lims 0) (lim lims 1)).trips M))))

/-- The condition of the body's branch, from the grid coordinates. -/
abbrev cond0 (i : grid0.Coords) : Prop := (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [cond0, e0]
    word_cmp
   : ∀ t : Fin grid0.N, cond0 (grid0.coords t) ↔ t.val % 25 = 0)

section Run

variable (c : Dev nD) (i : grid0.Coords)
  (arg1 : Memref sig .tc .smem S1x1x10 .i32) (harg1 : arg1.IsWhole) (arg2 : Memref sig .tc .vmem S2000x1 .i32) (harg2 : arg2.IsWhole)
  (arg3 : Memref sig .tc .vmem S2000x512 .f32) (harg3 : arg3.IsWhole) (arg4 : Memref sig .tc .vmem S512x512 .f32) (harg4 : arg4.IsWhole)
  (arg5 : Memref sig .tc .vmem S1x512 .f32) (harg5 : arg5.IsWhole) (arg6 : Memref sig .tc .vmem S512x512 .f32) (harg6 : arg6.IsWhole)
  (arg7 : Memref sig .tc .vmem S1x512 .f32) (harg7 : arg7.IsWhole) (arg8 : Memref sig .tc .vmem S64x512 .f32) (harg8 : arg8.IsWhole)
  (arg9 : Memref sig .tc .vmem S64x128 .f32) (harg9 : arg9.IsWhole) (arg10 : Memref sig .tc .vmem S64x512 .f32) (harg10 : arg10.IsWhole)
  (x0 : Vec F S1x1x10 .i32) (x1 : Vec F S2000x1 .i32) (x2 : Vec F S2000x512 .f32) (x3 : Vec F S512x512 .f32) (x4 : Vec F S1x512 .f32)
  (x5 : Vec F S512x512 .f32) (x6 : Vec F S1x512 .f32) (xo7 : Vec F S64x512 .f32) (xo8 : Vec F S64x128 .f32) (xo9 : Vec F S64x512 .f32)

/-- The seven input blocks of the body, each held at its contents. -/
abbrev ins : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare x5
    ∗ owns (c : Thread nD τ) arg7 fullShare x6)

set_option maxHeartbeats 2000000 in
/-- A later point: the three outputs step from what they held. -/
theorem runB (hc : ¬cond0 i) (hL : Lims x0) (E : Set ℕ) (K : PUnit → sProp 𝕄) :
    iprop(ins c arg1 arg2 arg3 arg4 arg5 arg6 arg7 x0 x1 x2 x3 x4 x5 x6 ∗ owns (c : Thread nD τ) arg8 fullShare xo7 ∗ owns (c : Thread nD τ) arg9 fullShare xo8 ∗ owns (c : Thread nD τ) arg10 fullShare xo9
        ∗ (iprop(ins c arg1 arg2 arg3 arg4 arg5 arg6 arg7 x0 x1 x2 x3 x4 x5 x6
            ∗ owns (c : Thread nD τ) arg8 fullShare (sumStep x1 x2 x3 x4 x5 x6 xo7)
            ∗ owns (c : Thread nD τ) arg9 fullShare (cntStep x1 xo8)
            ∗ owns (c : Thread nD τ) arg10 fullShare (maxStep x0 x1 x2 x3 x4 x5 x6 xo9)) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8 arg9 harg9 arg10 harg10) K := by
  have k0_hw1 : k0_chk1 (arg1.view.readAt (Elt F) (Rect.unit (s := S1x1x10) ![0, 0, 0] S1x1x1.size inb_S1x1x10_S1x1x1_0_0_0).toLoadRect (harg1.unread x0) (Shape.Idx.first (numel1_S1x1x1.symm ▸ Nat.one_pos))) (arg1.view.readAt (Elt F) (Rect.unit (s := S1x1x10) ![0, 0, 1] S1x1x1.size inb_S1x1x10_S1x1x1_0_0_1).toLoadRect (harg1.unread x0) (Shape.Idx.first (numel1_S1x1x1.symm ▸ Nat.one_pos))) := by
    have e0 := lim_read arg1.view (harg1.unread x0) 0 inb_S1x1x10_S1x1x1_0_0_0 (numel1_S1x1x1.symm ▸ Nat.one_pos)
    have e1 := lim_read arg1.view (harg1.unread x0) 1 inb_S1x1x10_S1x1x1_0_0_1 (numel1_S1x1x1.symm ▸ Nat.one_pos)
    rw [harg1.read_unread] at e0 e1
    exact (congrArg₂ k0_chk1 e0 e1).mpr hL.c1
  have k0_hw2 : k0_chk2 (arg1.view.readAt (Elt F) (Rect.unit (s := S1x1x10) ![0, 0, 2] S1x1x1.size inb_S1x1x10_S1x1x1_0_0_2).toLoadRect (harg1.unread x0) (Shape.Idx.first (numel1_S1x1x1.symm ▸ Nat.one_pos))) (arg1.view.readAt (Elt F) (Rect.unit (s := S1x1x10) ![0, 0, 3] S1x1x1.size inb_S1x1x10_S1x1x1_0_0_3).toLoadRect (harg1.unread x0) (Shape.Idx.first (numel1_S1x1x1.symm ▸ Nat.one_pos))) := by
    have e0 := lim_read arg1.view (harg1.unread x0) 2 inb_S1x1x10_S1x1x1_0_0_2 (numel1_S1x1x1.symm ▸ Nat.one_pos)
    have e1 := lim_read arg1.view (harg1.unread x0) 3 inb_S1x1x10_S1x1x1_0_0_3 (numel1_S1x1x1.symm ▸ Nat.one_pos)
    rw [harg1.read_unread] at e0 e1
    exact (congrArg₂ k0_chk2 e0 e1).mpr hL.c2
  have k0_hw3 : k0_chk3 (arg1.view.readAt (Elt F) (Rect.unit (s := S1x1x10) ![0, 0, 4] S1x1x1.size inb_S1x1x10_S1x1x1_0_0_4).toLoadRect (harg1.unread x0) (Shape.Idx.first (numel1_S1x1x1.symm ▸ Nat.one_pos))) (arg1.view.readAt (Elt F) (Rect.unit (s := S1x1x10) ![0, 0, 5] S1x1x1.size inb_S1x1x10_S1x1x1_0_0_5).toLoadRect (harg1.unread x0) (Shape.Idx.first (numel1_S1x1x1.symm ▸ Nat.one_pos))) := by
    have e0 := lim_read arg1.view (harg1.unread x0) 4 inb_S1x1x10_S1x1x1_0_0_4 (numel1_S1x1x1.symm ▸ Nat.one_pos)
    have e1 := lim_read arg1.view (harg1.unread x0) 5 inb_S1x1x10_S1x1x1_0_0_5 (numel1_S1x1x1.symm ▸ Nat.one_pos)
    rw [harg1.read_unread] at e0 e1
    exact (congrArg₂ k0_chk3 e0 e1).mpr hL.c3
  have k0_hw4 : k0_chk4 (arg1.view.readAt (Elt F) (Rect.unit (s := S1x1x10) ![0, 0, 6] S1x1x1.size inb_S1x1x10_S1x1x1_0_0_6).toLoadRect (harg1.unread x0) (Shape.Idx.first (numel1_S1x1x1.symm ▸ Nat.one_pos))) (arg1.view.readAt (Elt F) (Rect.unit (s := S1x1x10) ![0, 0, 7] S1x1x1.size inb_S1x1x10_S1x1x1_0_0_7).toLoadRect (harg1.unread x0) (Shape.Idx.first (numel1_S1x1x1.symm ▸ Nat.one_pos))) := by
    have e0 := lim_read arg1.view (harg1.unread x0) 6 inb_S1x1x10_S1x1x1_0_0_6 (numel1_S1x1x1.symm ▸ Nat.one_pos)
    have e1 := lim_read arg1.view (harg1.unread x0) 7 inb_S1x1x10_S1x1x1_0_0_7 (numel1_S1x1x1.symm ▸ Nat.one_pos)
    rw [harg1.read_unread] at e0 e1
    exact (congrArg₂ k0_chk4 e0 e1).mpr hL.c4
  have k0_hw5 : k0_chk5 (arg1.view.readAt (Elt F) (Rect.unit (s := S1x1x10) ![0, 0, 8] S1x1x1.size inb_S1x1x10_S1x1x1_0_0_8).toLoadRect (harg1.unread x0) (Shape.Idx.first (numel1_S1x1x1.symm ▸ Nat.one_pos))) (arg1.view.readAt (Elt F) (Rect.unit (s := S1x1x10) ![0, 0, 9] S1x1x1.size inb_S1x1x10_S1x1x1_0_0_9).toLoadRect (harg1.unread x0) (Shape.Idx.first (numel1_S1x1x1.symm ▸ Nat.one_pos))) := by
    have e0 := lim_read arg1.view (harg1.unread x0) 8 inb_S1x1x10_S1x1x1_0_0_8 (numel1_S1x1x1.symm ▸ Nat.one_pos)
    have e1 := lim_read arg1.view (harg1.unread x0) 9 inb_S1x1x10_S1x1x1_0_0_9 (numel1_S1x1x1.symm ▸ Nat.one_pos)
    rw [harg1.read_unread] at e0 e1
    exact (congrArg₂ k0_chk5 e0 e1).mpr hL.c5
  simp only [cc0__pass1_kernel_eq_skeleton]; unfold cc0__pass1_kernel_skel
  simp only [k0_part1_eq_skeleton, k0_part2_eq_skeleton, k0_part3_eq_skeleton]
  generalize hR7 : sumStep x1 x2 x3 x4 x5 x6 xo7 = R7
  generalize hR8 : cntStep x1 xo8 = R8
  generalize hR9 : maxStep x0 x1 x2 x3 x4 x5 x6 xo9 = R9
  clear hL
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%f7, %hf7, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec (disch := first | sl_exact hc | sl_exact k0_hw1 | sl_exact k0_hw2 | sl_exact k0_hw3 | sl_exact k0_hw4 | sl_exact k0_hw5)
  sl_step
  iapply Hk
  isplitl [H0 H1 H2 H3 H4 H5 H6]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; isplitr; · ipureintro; exact harg7.read_unread _
    iexact H6
  isplitl [H7]
  · iexists _; isplitr; rotate_left; · iexact H7
    ipureintro
    subst hR7
    refine (View.read_writes_full _ _ _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, View.ld_unit_zero (S := S2000x1) hz, View.ld_unit_zero (S := S2000x512) hz, View.ld_unit_zero (S := S512x512) hz, View.ld_unit_zero (S := S1x512) hz, View.ld_unit_zero (S := S64x512) hz, View.ld_unit_zero (S := S64x128) hz]
    rfl
  isplitl [H8]
  · iexists _; isplitr; rotate_left; · iexact H8
    ipureintro
    subst hR8
    refine (View.read_writes_full _ _ _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, View.ld_unit_zero (S := S2000x1) hz, View.ld_unit_zero (S := S2000x512) hz, View.ld_unit_zero (S := S512x512) hz, View.ld_unit_zero (S := S1x512) hz, View.ld_unit_zero (S := S64x512) hz, View.ld_unit_zero (S := S64x128) hz]
    rfl
  iexists _; isplitr; rotate_left; · iexact H9
  ipureintro
  subst hR9
  rw [View.writes_append, read_t10, View.writes_append, read_t9, View.writes_append, read_t8, View.writes_append, read_t7,
    View.writes_append, read_t6, View.writes_append, read_t5, View.writes_append, read_t4, View.writes_append, read_t3,
    View.writes_append, read_t2, read_t1]
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S2000x1) hz, View.ld_unit_zero (S := S2000x512) hz, View.ld_unit_zero (S := S512x512) hz, View.ld_unit_zero (S := S1x512) hz, View.ld_unit_zero (S := S64x512) hz, View.ld_unit_zero (S := S64x128) hz]
  have e0 : lim x0 0 = _ := (lim_ld x0 0 (by decide) inb_S1x1x10_S1x1x1_0_0_0 (numel1_S1x1x1.symm ▸ Nat.one_pos)).symm
  have e1 : lim x0 1 = _ := (lim_ld x0 1 (by decide) inb_S1x1x10_S1x1x1_0_0_1 (numel1_S1x1x1.symm ▸ Nat.one_pos)).symm
  have e2 : lim x0 2 = _ := (lim_ld x0 2 (by decide) inb_S1x1x10_S1x1x1_0_0_2 (numel1_S1x1x1.symm ▸ Nat.one_pos)).symm
  have e3 : lim x0 3 = _ := (lim_ld x0 3 (by decide) inb_S1x1x10_S1x1x1_0_0_3 (numel1_S1x1x1.symm ▸ Nat.one_pos)).symm
  have e4 : lim x0 4 = _ := (lim_ld x0 4 (by decide) inb_S1x1x10_S1x1x1_0_0_4 (numel1_S1x1x1.symm ▸ Nat.one_pos)).symm
  have e5 : lim x0 5 = _ := (lim_ld x0 5 (by decide) inb_S1x1x10_S1x1x1_0_0_5 (numel1_S1x1x1.symm ▸ Nat.one_pos)).symm
  have e6 : lim x0 6 = _ := (lim_ld x0 6 (by decide) inb_S1x1x10_S1x1x1_0_0_6 (numel1_S1x1x1.symm ▸ Nat.one_pos)).symm
  have e7 : lim x0 7 = _ := (lim_ld x0 7 (by decide) inb_S1x1x10_S1x1x1_0_0_7 (numel1_S1x1x1.symm ▸ Nat.one_pos)).symm
  have e8 : lim x0 8 = _ := (lim_ld x0 8 (by decide) inb_S1x1x10_S1x1x1_0_0_8 (numel1_S1x1x1.symm ▸ Nat.one_pos)).symm
  have e9 : lim x0 9 = _ := (lim_ld x0 9 (by decide) inb_S1x1x10_S1x1x1_0_0_9 (numel1_S1x1x1.symm ▸ Nat.one_pos)).symm
  unfold maxStep
  rw [e0, e1, e2, e3, e4, e5, e6, e7, e8, e9]

set_option maxHeartbeats 2000000 in
/-- The first point: the three outputs are reset and step from the reset values. -/
theorem runA (hc : cond0 i) (hL : Lims x0) (E : Set ℕ) (K : PUnit → sProp 𝕄) :
    iprop(ins c arg1 arg2 arg3 arg4 arg5 arg6 arg7 x0 x1 x2 x3 x4 x5 x6 ∗ owns (c : Thread nD τ) arg8 fullShare xo7 ∗ owns (c : Thread nD τ) arg9 fullShare xo8 ∗ owns (c : Thread nD τ) arg10 fullShare xo9
        ∗ (iprop(ins c arg1 arg2 arg3 arg4 arg5 arg6 arg7 x0 x1 x2 x3 x4 x5 x6
            ∗ owns (c : Thread nD τ) arg8 fullShare (sumStep x1 x2 x3 x4 x5 x6 (k0_pay3 (F := F)))
            ∗ owns (c : Thread nD τ) arg9 fullShare (cntStep x1 (k0_pay4 (F := F)))
            ∗ owns (c : Thread nD τ) arg10 fullShare (maxStep x0 x1 x2 x3 x4 x5 x6 (k0_pay5 (F := F)))) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8 arg9 harg9 arg10 harg10) K := by
  have k0_hw1 : k0_chk1 (arg1.view.readAt (Elt F) (Rect.unit (s := S1x1x10) ![0, 0, 0] S1x1x1.size inb_S1x1x10_S1x1x1_0_0_0).toLoadRect (harg1.unread x0) (Shape.Idx.first (numel1_S1x1x1.symm ▸ Nat.one_pos))) (arg1.view.readAt (Elt F) (Rect.unit (s := S1x1x10) ![0, 0, 1] S1x1x1.size inb_S1x1x10_S1x1x1_0_0_1).toLoadRect (harg1.unread x0) (Shape.Idx.first (numel1_S1x1x1.symm ▸ Nat.one_pos))) := by
    have e0 := lim_read arg1.view (harg1.unread x0) 0 inb_S1x1x10_S1x1x1_0_0_0 (numel1_S1x1x1.symm ▸ Nat.one_pos)
    have e1 := lim_read arg1.view (harg1.unread x0) 1 inb_S1x1x10_S1x1x1_0_0_1 (numel1_S1x1x1.symm ▸ Nat.one_pos)
    rw [harg1.read_unread] at e0 e1
    exact (congrArg₂ k0_chk1 e0 e1).mpr hL.c1
  have k0_hw2 : k0_chk2 (arg1.view.readAt (Elt F) (Rect.unit (s := S1x1x10) ![0, 0, 2] S1x1x1.size inb_S1x1x10_S1x1x1_0_0_2).toLoadRect (harg1.unread x0) (Shape.Idx.first (numel1_S1x1x1.symm ▸ Nat.one_pos))) (arg1.view.readAt (Elt F) (Rect.unit (s := S1x1x10) ![0, 0, 3] S1x1x1.size inb_S1x1x10_S1x1x1_0_0_3).toLoadRect (harg1.unread x0) (Shape.Idx.first (numel1_S1x1x1.symm ▸ Nat.one_pos))) := by
    have e0 := lim_read arg1.view (harg1.unread x0) 2 inb_S1x1x10_S1x1x1_0_0_2 (numel1_S1x1x1.symm ▸ Nat.one_pos)
    have e1 := lim_read arg1.view (harg1.unread x0) 3 inb_S1x1x10_S1x1x1_0_0_3 (numel1_S1x1x1.symm ▸ Nat.one_pos)
    rw [harg1.read_unread] at e0 e1
    exact (congrArg₂ k0_chk2 e0 e1).mpr hL.c2
  have k0_hw3 : k0_chk3 (arg1.view.readAt (Elt F) (Rect.unit (s := S1x1x10) ![0, 0, 4] S1x1x1.size inb_S1x1x10_S1x1x1_0_0_4).toLoadRect (harg1.unread x0) (Shape.Idx.first (numel1_S1x1x1.symm ▸ Nat.one_pos))) (arg1.view.readAt (Elt F) (Rect.unit (s := S1x1x10) ![0, 0, 5] S1x1x1.size inb_S1x1x10_S1x1x1_0_0_5).toLoadRect (harg1.unread x0) (Shape.Idx.first (numel1_S1x1x1.symm ▸ Nat.one_pos))) := by
    have e0 := lim_read arg1.view (harg1.unread x0) 4 inb_S1x1x10_S1x1x1_0_0_4 (numel1_S1x1x1.symm ▸ Nat.one_pos)
    have e1 := lim_read arg1.view (harg1.unread x0) 5 inb_S1x1x10_S1x1x1_0_0_5 (numel1_S1x1x1.symm ▸ Nat.one_pos)
    rw [harg1.read_unread] at e0 e1
    exact (congrArg₂ k0_chk3 e0 e1).mpr hL.c3
  have k0_hw4 : k0_chk4 (arg1.view.readAt (Elt F) (Rect.unit (s := S1x1x10) ![0, 0, 6] S1x1x1.size inb_S1x1x10_S1x1x1_0_0_6).toLoadRect (harg1.unread x0) (Shape.Idx.first (numel1_S1x1x1.symm ▸ Nat.one_pos))) (arg1.view.readAt (Elt F) (Rect.unit (s := S1x1x10) ![0, 0, 7] S1x1x1.size inb_S1x1x10_S1x1x1_0_0_7).toLoadRect (harg1.unread x0) (Shape.Idx.first (numel1_S1x1x1.symm ▸ Nat.one_pos))) := by
    have e0 := lim_read arg1.view (harg1.unread x0) 6 inb_S1x1x10_S1x1x1_0_0_6 (numel1_S1x1x1.symm ▸ Nat.one_pos)
    have e1 := lim_read arg1.view (harg1.unread x0) 7 inb_S1x1x10_S1x1x1_0_0_7 (numel1_S1x1x1.symm ▸ Nat.one_pos)
    rw [harg1.read_unread] at e0 e1
    exact (congrArg₂ k0_chk4 e0 e1).mpr hL.c4
  have k0_hw5 : k0_chk5 (arg1.view.readAt (Elt F) (Rect.unit (s := S1x1x10) ![0, 0, 8] S1x1x1.size inb_S1x1x10_S1x1x1_0_0_8).toLoadRect (harg1.unread x0) (Shape.Idx.first (numel1_S1x1x1.symm ▸ Nat.one_pos))) (arg1.view.readAt (Elt F) (Rect.unit (s := S1x1x10) ![0, 0, 9] S1x1x1.size inb_S1x1x10_S1x1x1_0_0_9).toLoadRect (harg1.unread x0) (Shape.Idx.first (numel1_S1x1x1.symm ▸ Nat.one_pos))) := by
    have e0 := lim_read arg1.view (harg1.unread x0) 8 inb_S1x1x10_S1x1x1_0_0_8 (numel1_S1x1x1.symm ▸ Nat.one_pos)
    have e1 := lim_read arg1.view (harg1.unread x0) 9 inb_S1x1x10_S1x1x1_0_0_9 (numel1_S1x1x1.symm ▸ Nat.one_pos)
    rw [harg1.read_unread] at e0 e1
    exact (congrArg₂ k0_chk5 e0 e1).mpr hL.c5
  simp only [cc0__pass1_kernel_eq_skeleton]; unfold cc0__pass1_kernel_skel
  simp only [k0_part1_eq_skeleton, k0_part2_eq_skeleton, k0_part3_eq_skeleton]
  generalize hR7 : sumStep x1 x2 x3 x4 x5 x6 (k0_pay3 (F := F)) = R7
  generalize hR8 : cntStep x1 (k0_pay4 (F := F)) = R8
  generalize hR9 : maxStep x0 x1 x2 x3 x4 x5 x6 (k0_pay5 (F := F)) = R9
  clear hL
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%f7, %hf7, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec (disch := first | sl_exact hc | sl_exact k0_hw1 | sl_exact k0_hw2 | sl_exact k0_hw3 | sl_exact k0_hw4 | sl_exact k0_hw5)
  sl_step
  iapply Hk
  isplitl [H0 H1 H2 H3 H4 H5 H6]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; isplitr; · ipureintro; exact harg7.read_unread _
    iexact H6
  isplitl [H7]
  · iexists _; isplitr; rotate_left; · iexact H7
    ipureintro
    subst hR7
    refine (View.read_writes_full _ _ _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, View.ld_unit_zero (S := S2000x1) hz, View.ld_unit_zero (S := S2000x512) hz, View.ld_unit_zero (S := S512x512) hz, View.ld_unit_zero (S := S1x512) hz, View.ld_unit_zero (S := S64x512) hz, View.ld_unit_zero (S := S64x128) hz,
    View.readCov_unit_zero (S := S64x512) _ hz, View.readCov_unit_zero (S := S64x128) _ hz, read_reset]
    rfl
  isplitl [H8]
  · iexists _; isplitr; rotate_left; · iexact H8
    ipureintro
    subst hR8
    refine (View.read_writes_full _ _ _ _ _).trans ?_
    sl_unfold_words
    simp only [View.readAt_eq_ld, harg1.read_unread, harg2.read_unread, harg3.read_unread, harg4.read_unread, harg5.read_unread, harg6.read_unread, harg7.read_unread, harg8.read_unread, harg9.read_unread, harg10.read_unread, View.ld_unit_zero (S := S2000x1) hz, View.ld_unit_zero (S := S2000x512) hz, View.ld_unit_zero (S := S512x512) hz, View.ld_unit_zero (S := S1x512) hz, View.ld_unit_zero (S := S64x512) hz, View.ld_unit_zero (S := S64x128) hz,
    View.readCov_unit_zero (S := S64x512) _ hz, View.readCov_unit_zero (S := S64x128) _ hz, read_reset]
    rfl
  iexists _; isplitr; rotate_left; · iexact H9
  ipureintro
  subst hR9
  rw [View.writes_append, read_t10, View.writes_append, read_t9, View.writes_append, read_t8, View.writes_append, read_t7,
    View.writes_append, read_t6, View.writes_append, read_t5, View.writes_append, read_t4, View.writes_append, read_t3,
    View.writes_append, read_t2, View.writes_append, read_t1]
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S2000x1) hz, View.ld_unit_zero (S := S2000x512) hz, View.ld_unit_zero (S := S512x512) hz, View.ld_unit_zero (S := S1x512) hz, View.ld_unit_zero (S := S64x512) hz, View.ld_unit_zero (S := S64x128) hz,
    View.readCov_unit_zero (S := S64x512) _ hz, View.readCov_unit_zero (S := S64x128) _ hz, read_reset]
  have e0 : lim x0 0 = _ := (lim_ld x0 0 (by decide) inb_S1x1x10_S1x1x1_0_0_0 (numel1_S1x1x1.symm ▸ Nat.one_pos)).symm
  have e1 : lim x0 1 = _ := (lim_ld x0 1 (by decide) inb_S1x1x10_S1x1x1_0_0_1 (numel1_S1x1x1.symm ▸ Nat.one_pos)).symm
  have e2 : lim x0 2 = _ := (lim_ld x0 2 (by decide) inb_S1x1x10_S1x1x1_0_0_2 (numel1_S1x1x1.symm ▸ Nat.one_pos)).symm
  have e3 : lim x0 3 = _ := (lim_ld x0 3 (by decide) inb_S1x1x10_S1x1x1_0_0_3 (numel1_S1x1x1.symm ▸ Nat.one_pos)).symm
  have e4 : lim x0 4 = _ := (lim_ld x0 4 (by decide) inb_S1x1x10_S1x1x1_0_0_4 (numel1_S1x1x1.symm ▸ Nat.one_pos)).symm
  have e5 : lim x0 5 = _ := (lim_ld x0 5 (by decide) inb_S1x1x10_S1x1x1_0_0_5 (numel1_S1x1x1.symm ▸ Nat.one_pos)).symm
  have e6 : lim x0 6 = _ := (lim_ld x0 6 (by decide) inb_S1x1x10_S1x1x1_0_0_6 (numel1_S1x1x1.symm ▸ Nat.one_pos)).symm
  have e7 : lim x0 7 = _ := (lim_ld x0 7 (by decide) inb_S1x1x10_S1x1x1_0_0_7 (numel1_S1x1x1.symm ▸ Nat.one_pos)).symm
  have e8 : lim x0 8 = _ := (lim_ld x0 8 (by decide) inb_S1x1x10_S1x1x1_0_0_8 (numel1_S1x1x1.symm ▸ Nat.one_pos)).symm
  have e9 : lim x0 9 = _ := (lim_ld x0 9 (by decide) inb_S1x1x10_S1x1x1_0_0_9 (numel1_S1x1x1.symm ▸ Nat.one_pos)).symm
  unfold maxStep
  rw [e0, e1, e2, e3, e4, e5, e6, e7, e8, e9]

end Run

end Cert.KernelIdeal.Hand
-- ==== Proof.KernelIdeal.Data0.lean ====
/- The first pallas_call's proof data: what its three accumulators hold after each grid point, and its body obligation. -/
module

public import proofs.«01_k».proof.Proof.KernelIdeal.Pass1
public import proofs.«01_k».proof.Proof.Gen.KernelIdeal.Points
public import proofs.«01_k».proof.Proof.Gen.KernelIdeal.Launch
public import proofs.«01_k».proof.Proof.Gen.KernelIdeal.Regions
public import Idealize.ShloMosaic.Lib.Pipeline.FrameBody
public import Idealize.ShloMosaic.Lib.Pipeline.RegionArraysS

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The three accumulators: sums, counts, maxima. -/
abbrev Acc (F : FTy → Type) [FloatOps F] : Type := Vec F S64x512 .f32 × Vec F S64x128 .f32 × Vec F S64x512 .f32

/-- One grid point's step of the accumulators, from the point's blocks. -/
def step0 (c : Dev nD) (t : Fin cfg0.N) (s : Acc F) : Acc F :=
  (sumStep (iblk0 W c 1 t) (iblk0 W c 2 t) (iblk0 W c 3 t) (iblk0 W c 4 t) (iblk0 W c 5 t) (iblk0 W c 6 t) s.1,
    cntStep (iblk0 W c 1 t) s.2.1,
    maxStep (iblk0 W c 0 t) (iblk0 W c 1 t) (iblk0 W c 2 t) (iblk0 W c 3 t) (iblk0 W c 4 t) (iblk0 W c 5 t) (iblk0 W c 6 t) s.2.2)

/-- The accumulators after the first `n` grid points, from their reset values. -/
def acc0 (c : Dev nD) : ℕ → Acc F
  | 0 => (k0_pay3 (F := F), k0_pay4 (F := F), k0_pay5 (F := F))
  | n + 1 => if h : n < cfg0.N then step0 W c ⟨n, h⟩ (acc0 c n) else acc0 c n

theorem acc0_zero (c : Dev nD) : acc0 W c 0 = (k0_pay3 (F := F), k0_pay4 (F := F), k0_pay5 (F := F)) := rfl

theorem acc0_succ (c : Dev nD) (t : Fin cfg0.N) : acc0 W c (t.val + 1) = step0 W c t (acc0 W c t.val) := by
  show (if h : t.val < cfg0.N then _ else _) = _
  rw [dif_pos t.isLt]

/-- The proof data of the first region: the arrays as entered, the inputs left at their blocks, the outputs at the accumulators. -/
def dat0 (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => iblk0 W c 1 t
    | ⟨2, _⟩ => iblk0 W c 2 t
    | ⟨3, _⟩ => iblk0 W c 3 t
    | ⟨4, _⟩ => iblk0 W c 4 t
    | ⟨5, _⟩ => iblk0 W c 5 t
    | ⟨6, _⟩ => iblk0 W c 6 t
    | ⟨7, _⟩ => (acc0 W c (t.val + 1)).1
    | ⟨8, _⟩ => (acc0 W c (t.val + 1)).2.1
    | ⟨9, _⟩ => (acc0 W c (t.val + 1)).2.2
  Φ _ := Pipeline.ΦA spec0 c
  q _ := fullShare
  owed _ := 0

theorem A0_eq (c : Dev nD) (w : Fin cfg0.W) : (dat0 W c).A w = W c (Proc.devRef .tc (Pipeline.arrRef spec0 w)) := by
  dsimp only [dat0]

theorem after0_0 (c : Dev nD) (t : Fin cfg0.N) : (dat0 W c).after 0 t = iblk0 W c 0 t := by dsimp only [dat0]
theorem after0_1 (c : Dev nD) (t : Fin cfg0.N) : (dat0 W c).after 1 t = iblk0 W c 1 t := by dsimp only [dat0]
theorem after0_2 (c : Dev nD) (t : Fin cfg0.N) : (dat0 W c).after 2 t = iblk0 W c 2 t := by dsimp only [dat0]
theorem after0_3 (c : Dev nD) (t : Fin cfg0.N) : (dat0 W c).after 3 t = iblk0 W c 3 t := by dsimp only [dat0]
theorem after0_4 (c : Dev nD) (t : Fin cfg0.N) : (dat0 W c).after 4 t = iblk0 W c 4 t := by dsimp only [dat0]
theorem after0_5 (c : Dev nD) (t : Fin cfg0.N) : (dat0 W c).after 5 t = iblk0 W c 5 t := by dsimp only [dat0]
theorem after0_6 (c : Dev nD) (t : Fin cfg0.N) : (dat0 W c).after 6 t = iblk0 W c 6 t := by dsimp only [dat0]
theorem after0_7 (c : Dev nD) (t : Fin cfg0.N) : (dat0 W c).after 7 t = (acc0 W c (t.val + 1)).1 := by dsimp only [dat0]
theorem after0_8 (c : Dev nD) (t : Fin cfg0.N) : (dat0 W c).after 8 t = (acc0 W c (t.val + 1)).2.1 := by dsimp only [dat0]
theorem after0_9 (c : Dev nD) (t : Fin cfg0.N) : (dat0 W c).after 9 t = (acc0 W c (t.val + 1)).2.2 := by dsimp only [dat0]

theorem before0_0 (c : Dev nD) (t : Fin cfg0.N) (d) : (dat0 W c).before 0 t d = iblk0 W c 0 t :=
  ((dat0 W c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 W c).before 1 t d = iblk0 W c 1 t :=
  ((dat0 W c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)
theorem before0_2 (c : Dev nD) (t : Fin cfg0.N) (d) : (dat0 W c).before 2 t d = iblk0 W c 2 t :=
  ((dat0 W c).before_in_eq_fetched 2 rfl (fun _ => rfl) (fun _ _ _ => rfl) (fun t => by rw [after0_2]; unfold Dat.blockOf iblk0; rw [A0_eq]; try rfl) t d).trans
    (by unfold Dat.fetched Dat.blockOf iblk0; rw [A0_eq]; try rfl)
theorem before0_3 (c : Dev nD) (t : Fin cfg0.N) (d) : (dat0 W c).before 3 t d = iblk0 W c 3 t :=
  ((dat0 W c).before_in_eq_fetched 3 rfl (fun _ => rfl) (fun _ _ _ => rfl) (fun t => by rw [after0_3]; unfold Dat.blockOf iblk0; rw [A0_eq]; try rfl) t d).trans
    (by unfold Dat.fetched Dat.blockOf iblk0; rw [A0_eq]; try rfl)
theorem before0_4 (c : Dev nD) (t : Fin cfg0.N) (d) : (dat0 W c).before 4 t d = iblk0 W c 4 t :=
  ((dat0 W c).before_in_eq_fetched 4 rfl (fun _ => rfl) (fun _ _ _ => rfl) (fun t => by rw [after0_4]; unfold Dat.blockOf iblk0; rw [A0_eq]; try rfl) t d).trans
    (by unfold Dat.fetched Dat.blockOf iblk0; rw [A0_eq]; try rfl)
theorem before0_5 (c : Dev nD) (t : Fin cfg0.N) (d) : (dat0 W c).before 5 t d = iblk0 W c 5 t :=
  ((dat0 W c).before_in_eq_fetched 5 rfl (fun _ => rfl) (fun _ _ _ => rfl) (fun t => by rw [after0_5]; unfold Dat.blockOf iblk0; rw [A0_eq]; try rfl) t d).trans
    (by unfold Dat.fetched Dat.blockOf iblk0; rw [A0_eq]; try rfl)
theorem before0_6 (c : Dev nD) (t : Fin cfg0.N) (d) : (dat0 W c).before 6 t d = iblk0 W c 6 t :=
  ((dat0 W c).before_in_eq_fetched 6 rfl (fun _ => rfl) (fun _ _ _ => rfl) (fun t => by rw [after0_6]; unfold Dat.blockOf iblk0; rw [A0_eq]; try rfl) t d).trans
    (by unfold Dat.fetched Dat.blockOf iblk0; rw [A0_eq]; try rfl)
theorem before0_7 (c : Dev nD) (t : Fin cfg0.N) (h0 : ¬t.val % 25 = 0) (d) : (dat0 W c).before 7 t d = (acc0 W c t.val).1 := by
  have hN : t.val < 25 := lt_of_lt_of_eq t.isLt (show cfg0.N = 25 from N_0)
  rw [Dat.before_out_kept _ 7 rfl t (by omega) (Bool.eq_false_iff.mpr fun h => by have := (flush0_7 _).mp h; dsimp only at this; omega)
    (fun _ => rfl) (fun _ _ => rfl)]
  rw [after0_7]
  dsimp only
  rw [Nat.sub_add_cancel (by omega : 1 ≤ t.val)]
theorem before0_8 (c : Dev nD) (t : Fin cfg0.N) (h0 : ¬t.val % 25 = 0) (d) : (dat0 W c).before 8 t d = (acc0 W c t.val).2.1 := by
  have hN : t.val < 25 := lt_of_lt_of_eq t.isLt (show cfg0.N = 25 from N_0)
  rw [Dat.before_out_kept _ 8 rfl t (by omega) (Bool.eq_false_iff.mpr fun h => by have := (flush0_8 _).mp h; dsimp only at this; omega)
    (fun _ => rfl) (fun _ _ => rfl)]
  rw [after0_8]
  dsimp only
  rw [Nat.sub_add_cancel (by omega : 1 ≤ t.val)]
theorem before0_9 (c : Dev nD) (t : Fin cfg0.N) (h0 : ¬t.val % 25 = 0) (d) : (dat0 W c).before 9 t d = (acc0 W c t.val).2.2 := by
  have hN : t.val < 25 := lt_of_lt_of_eq t.isLt (show cfg0.N = 25 from N_0)
  rw [Dat.before_out_kept _ 9 rfl t (by omega) (Bool.eq_false_iff.mpr fun h => by have := (flush0_9 _).mp h; dsimp only at this; omega)
    (fun _ => rfl) (fun _ _ => rfl)]
  rw [after0_9]
  dsimp only
  rw [Nat.sub_add_cancel (by omega : 1 ≤ t.val)]

/-- What the body is called with at point `t`, window by window. -/
def bodyPre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))
    ∗ (∃ d, owns (c : Thread nD τ) (st0_3 t) fullShare ((dat0 W c).before 3 t d))
    ∗ (∃ d, owns (c : Thread nD τ) (st0_4 t) fullShare ((dat0 W c).before 4 t d))
    ∗ (∃ d, owns (c : Thread nD τ) (st0_5 t) fullShare ((dat0 W c).before 5 t d))
    ∗ (∃ d, owns (c : Thread nD τ) (st0_6 t) fullShare ((dat0 W c).before 6 t d))
    ∗ (∃ d, owns (c : Thread nD τ) (st0_7 t) fullShare ((dat0 W c).before 7 t d))
    ∗ (∃ d, owns (c : Thread nD τ) (st0_8 t) fullShare ((dat0 W c).before 8 t d))
    ∗ (∃ d, owns (c : Thread nD τ) (st0_9 t) fullShare ((dat0 W c).before 9 t d)))

/-- What the body returns at point `t`, window by window. -/
def bodyPost0 (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t)
    ∗ owns (c : Thread nD τ) (st0_3 t) fullShare ((dat0 W c).after 3 t)
    ∗ owns (c : Thread nD τ) (st0_4 t) fullShare ((dat0 W c).after 4 t)
    ∗ owns (c : Thread nD τ) (st0_5 t) fullShare ((dat0 W c).after 5 t)
    ∗ owns (c : Thread nD τ) (st0_6 t) fullShare ((dat0 W c).after 6 t)
    ∗ owns (c : Thread nD τ) (st0_7 t) fullShare ((dat0 W c).after 7 t)
    ∗ owns (c : Thread nD τ) (st0_8 t) fullShare ((dat0 W c).after 8 t)
    ∗ owns (c : Thread nD τ) (st0_9 t) fullShare ((dat0 W c).after 9 t))

set_option maxHeartbeats 3200000 in
/-- The body at any point: the first resets the accumulators, a later one steps what the point before left. -/
theorem sound_body0 (hL : ∀ c t, Lims (F := F) (iblk0 W c 0 t)) (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1, before0_2, before0_3, before0_4, before0_5, before0_6]
  rw [show (dat0 W c).Φ t.succ = (dat0 W c).Φ t.castSucc from rfl,
    show (dat0 W c).owesAt () t.succ = (dat0 W c).owesAt () t.castSucc from rfl,
    after0_0, after0_1, after0_2, after0_3, after0_4, after0_5, after0_6, after0_7, after0_8, after0_9]
  have hN : t.val < 25 := lt_of_lt_of_eq t.isLt (show cfg0.N = 25 from N_0)
  by_cases h0 : t.val % 25 = 0
  · rw [acc0_succ, show t.val = 0 by omega, acc0_zero]
    unfold step0; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runA c (grid0.coords t) _ _ _ _ _ _ _ _ _ _ _ _ _ _ _ _ _ _ _ _ (iblk0 W c 0 t) (iblk0 W c 1 t) (iblk0 W c 2 t) (iblk0 W c 3 t) (iblk0 W c 4 t) (iblk0 W c 5 t) (iblk0 W c 6 t) _ _ _ ((hcond0 t).mpr h0) (hL c t) Set.univ _)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    isplitl [H8]; · iexact H8
    isplitl [H9]; · iexact H9
    iintro ⟨⟨H0, H1, H2, H3, H4, H5, H6⟩, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · simp only [before0_7 W c t h0, before0_8 W c t h0, before0_9 W c t h0]
    rw [acc0_succ]
    unfold step0; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runB c (grid0.coords t) _ _ _ _ _ _ _ _ _ _ _ _ _ _ _ _ _ _ _ _ (iblk0 W c 0 t) (iblk0 W c 1 t) (iblk0 W c 2 t) (iblk0 W c 3 t) (iblk0 W c 4 t) (iblk0 W c 5 t) (iblk0 W c 6 t) _ _ _ (fun h => h0 ((hcond0 t).mp h)) (hL c t) Set.univ _)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    isplitl [H8]; · iexact H8
    isplitl [H9]; · iexact H9
    iintro ⟨⟨H0, H1, H2, H3, H4, H5, H6⟩, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body. -/
theorem defs₀_row0 (t : Fin cfg0.N) :
    defs₀ (F := F) .tc cfg0.body (cfg0.bodyArgs t (cfg0.slots t)) = bodyAt0 t := by
  unfold defs₀; rw [Defs.onTc_tc]

/-- The body obligation, at every point. -/
theorem body_obligation0 (hL : ∀ c t, Lims (F := F) (iblk0 W c 0 t)) (c : Dev nD) : BodyObligation (dat0 W c) (defs₀ (F := F)) Variants.none () Set.univ := fun t => by
  rw [bigSep_W0, bigSep_W0, defs₀_row0]
  exact triple_restated (sound_body0 W hL c t) rfl .rfl fun _ => .rfl

end Cert.KernelIdeal.Hand

end
-- ==== Proof.KernelIdeal.Pass2.lean ====
/- The second pallas_call's body: its triple at the first grid point, where it forms the gate of every group and keeps it
   in its scratch buffer, and at the later points, where it only reads the gate. -/
module

public import proofs.«01_k».proof.Proof.KernelIdeal.Pass1

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The gate of every group, from the sums, counts and maxima the first pass left and the output layer's weights. -/
def gateOf (s : Vec F S64x512 .f32) (n : Vec F S64x128 .f32) (M : Vec F S64x512 .f32) (W3 : Vec F S1024x512 .f32) (b3 : Vec F S1x512 .f32) : Vec F S64x512 .f32 :=
  k1_pay1 (View.ld n (Rect.unit (s := S64x128) ![0, 0] S64x1.size inb_S64x128_S64x1_0_0)) s M
    (View.ld W3 (Rect.unit (s := S1024x512) ![0, 0] S512x512.size inb_S1024x512_S512x512_0_0))
    (View.ld W3 (Rect.unit (s := S1024x512) ![512, 0] S512x512.size inb_S1024x512_S512x512_512_0)) b3

/-- The condition of the second body's branch, from the grid coordinates. -/
abbrev cond1 (i : grid1.Coords) : Prop := (Scalar.cmpi .ne (Scalar.extui (Scalar.cmpi .eq (BitVec.ofNat 32 (i 0).val) 0#32)) 0#32) = 1#1

/-- It holds at the first point only. -/
theorem hcond1 : ∀ t : Fin cfg1.N, cond1 (grid1.coords t) ↔ t.val % 10 = 0 :=
  (fun t => by
    have ht : t.val < 10 := Nat.lt_of_lt_of_eq t.isLt N_1
    have e0 : (grid1.coords t 0).val = t.val / 1 % 10 := Pipeline.Grid.coords_val t 0 (by decide) rfl
    simp only [cond1, e0]
    word_cmp
   : ∀ t : Fin grid1.N, cond1 (grid1.coords t) ↔ t.val % 10 = 0)

section Run

variable (c : Dev nD) (i : grid1.Coords)
  (arg1 : Memref sig .tc .vmem S5000x1 .i32) (harg1 : arg1.IsWhole)
  (arg2 : Memref sig .tc .vmem S5000x512 .f32) (harg2 : arg2.IsWhole)
  (arg3 : Memref sig .tc .vmem S64x512 .f32) (harg3 : arg3.IsWhole)
  (arg4 : Memref sig .tc .vmem S64x128 .f32) (harg4 : arg4.IsWhole)
  (arg5 : Memref sig .tc .vmem S64x512 .f32) (harg5 : arg5.IsWhole)
  (arg6 : Memref sig .tc .vmem S1024x512 .f32) (harg6 : arg6.IsWhole)
  (arg7 : Memref sig .tc .vmem S1x512 .f32) (harg7 : arg7.IsWhole)
  (arg8 : Memref sig .tc .vmem S5000x512 .f32) (harg8 : arg8.IsWhole)
  (arg9 : Memref sig .tc .vmem S64x512 .f32) (harg9 : arg9.IsWhole)
  (x0 : Vec F S5000x1 .i32) (x1 : Vec F S5000x512 .f32) (x2 : Vec F S64x512 .f32) (x3 : Vec F S64x128 .f32) (x4 : Vec F S64x512 .f32)
  (x5 : Vec F S1024x512 .f32) (x6 : Vec F S1x512 .f32) (xo7 : Vec F S5000x512 .f32) (xs : Vec F S64x512 .f32)

/-- The seven input blocks of the second body, each held at its contents. -/
abbrev ins2 : sProp 𝕄 :=
  iprop(owns (c : Thread nD τ) arg1 fullShare x0
    ∗ owns (c : Thread nD τ) arg2 fullShare x1
    ∗ owns (c : Thread nD τ) arg3 fullShare x2
    ∗ owns (c : Thread nD τ) arg4 fullShare x3
    ∗ owns (c : Thread nD τ) arg5 fullShare x4
    ∗ owns (c : Thread nD τ) arg6 fullShare x5
    ∗ owns (c : Thread nD τ) arg7 fullShare x6)

set_option maxHeartbeats 2000000 in
/-- A later point: the same product, with the gate the scratch buffer already holds. -/
theorem run2B (hc : ¬cond1 i) (E : Set ℕ) (K : PUnit → sProp 𝕄) :
    iprop(ins2 c arg1 arg2 arg3 arg4 arg5 arg6 arg7 x0 x1 x2 x3 x4 x5 x6 ∗ owns (c : Thread nD τ) arg8 fullShare xo7 ∗ owns (c : Thread nD τ) arg9 fullShare xs
        ∗ (iprop(ins2 c arg1 arg2 arg3 arg4 arg5 arg6 arg7 x0 x1 x2 x3 x4 x5 x6 ∗ owns (c : Thread nD τ) arg8 fullShare (k1_pay2 x0 x1 (xs)) ∗ owns (c : Thread nD τ) arg9 fullShare (xs)) -∗ K ⟨⟩))
      ⊢ wp frame (wpE (defs₀ (F := F)) Variants.none c none) E (cc1__pass2_kernel i arg1 harg1 arg2 harg2 arg3 harg3 arg4 harg4 arg5 harg5 arg6 harg6 arg7 harg7 arg8 harg8 arg9 harg9) K := by
  simp only [cc1__pass2_kernel_eq_skeleton]; unfold cc1__pass2_kernel_skel
  generalize hR7 : k1_pay2 x0 x1 (xs) = R7
  unfold ins2 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := sl_exact hc)
  sl_step
  iapply Hk
  isplitl [H0 H1 H2 H3 H4 H5 H6]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; isplitr; · ipureintro; exact harg7.read_unread _
    iexact H6
  isplitl [H7]
  · iexists _; isplitr; rotate_left; · iexact H7
    ipureintro
    subst hR7
    refine (View.read_writes_full _ _ _ _ _).trans ?_
    sl_unfold_words
    simp only [View.readAt_eq_ld, harg1.read_unread, harg2.read_unread, harg3.read_unread, harg4.read_unread, harg5.read_unread, harg6.read_unread, harg7.read_unread, harg8.read_unread, harg9.read_unread, View.ld_unit_zero (S := S5000x1) hz, View.ld_unit_zero (S := S5000x512) hz, View.ld_unit_zero (S := S64x512) hz, View.ld_unit_zero (S := S1x512) hz, View.readCov_unit_zero (S := S64x512) _ hz]
    try rfl
  iexists _; isplitr; · ipureintro; exact harg9.read_unread _
  iexact H8

set_option maxHeartbeats 2000000 in
/-- The first point: the scratch buffer ends at the gate and the output block is the input block times its rows' gates. -/
theorem run2A (hc : cond1 i) (E : Set ℕ) (K : PUnit → sProp 𝕄) :
    iprop(ins2 c arg1 arg2 arg3 arg4 arg5 arg6 arg7 x0 x1 x2 x3 x4 x5 x6 ∗ owns (c : Thread nD τ) arg8 fullShare xo7 ∗ owns (c : Thread nD τ) arg9 fullShare xs
        ∗ (iprop(ins2 c arg1 arg2 arg3 arg4 arg5 arg6 arg7 x0 x1 x2 x3 x4 x5 x6 ∗ owns (c : Thread nD τ) arg8 fullShare (k1_pay2 x0 x1 (gateOf x2 x3 x4 x5 x6)) ∗ owns (c : Thread nD τ) arg9 fullShare (gateOf x2 x3 x4 x5 x6)) -∗ K ⟨⟩))
      ⊢ wp frame (wpE (defs₀ (F := F)) Variants.none c none) E (cc1__pass2_kernel i arg1 harg1 arg2 harg2 arg3 harg3 arg4 harg4 arg5 harg5 arg6 harg6 arg7 harg7 arg8 harg8 arg9 harg9) K := by
  simp only [cc1__pass2_kernel_eq_skeleton]; unfold cc1__pass2_kernel_skel
  generalize hR7 : k1_pay2 x0 x1 (gateOf x2 x3 x4 x5 x6) = R7
  generalize hR8 : gateOf x2 x3 x4 x5 x6 = R8 at *
  unfold ins2 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := sl_exact hc)
  sl_step
  iapply Hk
  isplitl [H0 H1 H2 H3 H4 H5 H6]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; isplitr; · ipureintro; exact harg7.read_unread _
    iexact H6
  isplitl [H7]
  · iexists _; isplitr; rotate_left; · iexact H7
    ipureintro
    subst hR8 hR7
    refine (View.read_writes_full _ _ _ _ _).trans ?_
    sl_unfold_words
    simp only [View.readAt_eq_ld, harg1.read_unread, harg2.read_unread, harg3.read_unread, harg4.read_unread, harg5.read_unread, harg6.read_unread, harg7.read_unread, harg8.read_unread, harg9.read_unread, View.ld_unit_zero (S := S5000x1) hz, View.ld_unit_zero (S := S5000x512) hz, View.ld_unit_zero (S := S64x512) hz, View.ld_unit_zero (S := S1x512) hz, View.readCov_unit_zero (S := S64x512) _ hz]
    try rfl
  iexists _; isplitr; rotate_left; · iexact H8
  ipureintro
  subst hR8
  refine (View.read_writes_full _ _ _ _ _).trans ?_
  sl_unfold_words
  simp only [View.readAt_eq_ld, harg1.read_unread, harg2.read_unread, harg3.read_unread, harg4.read_unread, harg5.read_unread, harg6.read_unread, harg7.read_unread, harg8.read_unread, harg9.read_unread, View.ld_unit_zero (S := S5000x1) hz, View.ld_unit_zero (S := S5000x512) hz, View.ld_unit_zero (S := S64x512) hz, View.ld_unit_zero (S := S1x512) hz, View.readCov_unit_zero (S := S64x512) _ hz]
  try rfl

end Run

end Cert.KernelIdeal.Hand

end
-- ==== Proof.KernelIdeal.Data1.lean ====
/- The second pallas_call's proof data: its scratch buffer holds the gate from the first point on; its body obligation. -/
module

public import proofs.«01_k».proof.Proof.KernelIdeal.Pass2
public import proofs.«01_k».proof.Proof.Gen.KernelIdeal.Points
public import proofs.«01_k».proof.Proof.Gen.KernelIdeal.Launch
public import proofs.«01_k».proof.Proof.Gen.KernelIdeal.Regions
public import Idealize.ShloMosaic.Lib.Pipeline.FrameBody
public import Idealize.ShloMosaic.Lib.Pipeline.RegionArraysS

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The first grid point. -/
def first1 : Fin cfg1.N := ⟨0, Nat.lt_of_lt_of_eq (by decide : 0 < 10) N_1.symm⟩

/-- The gate of every group, as the first point forms it. -/
def gate1 (c : Dev nD) : Vec F S64x512 .f32 :=
  gateOf (iblk1 W c 2 first1) (iblk1 W c 3 first1) (iblk1 W c 4 first1) (iblk1 W c 5 first1) (iblk1 W c 6 first1)

/-- The scratch buffer. -/
abbrev scM1 : Memref sig .tc .vmem S64x512 .f32 := Memref.whole cc1_scratch0

/-- The scoped buffers of the program that are neither this region's staging buffers nor its scratch. -/
abbrev others1 : List (Ref sig .tc) := [cc0_stg1_0, cc0_stg1_1, cc0_stg2_0, cc0_stg2_1, cc0_stg3_0, cc0_stg4_0, cc0_stg5_0, cc0_stg6_0, cc0_stg7_0, cc0_stg8_0, cc0_stg9_0, cc0_stg0_0, cc0_stg0_1]

/-- Those buffers, each at some contents. -/
def rest1 (c : Dev nD) : sProp 𝕄 :=
  bigSepL others1 fun b => iprop(∃ f : Buf (Elt F) ((c.tc : Thread nD τ).loc b), ((c.tc : Thread nD τ).loc b) ↦{fullShare} f)

theorem scopedRest1_split (c : Dev nD) :
    (Pipeline.scopedRest spec1 c : sProp 𝕄) = iprop((∃ d, owns (c : Thread nD τ) scM1 fullShare d) ∗ rest1 (F := F) c) := by
  rw [Pipeline.scopedRest_eq_of_list spec1 c (cc1_scratch0 :: others1) (by decide) (by decide)]
  simp only [scM1, owns_whole]
  rfl

/-- The region's invariant: the scratch at anything before the first point, at the gate afterwards. -/
def Phi1 (c : Dev nD) (n : ℕ) : sProp 𝕄 :=
  if n = 0 then Pipeline.ΦA spec1 c
  else iprop((owns (c : Thread nD τ) scM1 fullShare (gate1 W c) ∗ rest1 (F := F) c) ∗ ∃ r, prngReg c r)

theorem Phi1_zero (c : Dev nD) (n : ℕ) (h : n = 0) :
    Phi1 W c n = iprop(((∃ d, owns (c : Thread nD τ) scM1 fullShare d) ∗ rest1 (F := F) c) ∗ ∃ r, prngReg c r) := by
  unfold Phi1; rw [if_pos h]; unfold Pipeline.ΦA; rw [scopedRest1_split]

theorem Phi1_pos (c : Dev nD) (n : ℕ) (h : n ≠ 0) :
    Phi1 W c n = iprop((owns (c : Thread nD τ) scM1 fullShare (gate1 W c) ∗ rest1 (F := F) c) ∗ ∃ r, prngReg c r) := by
  unfold Phi1; rw [if_neg h]

/-- The proof data of the second region. -/
def dat1 (c : Dev nD) : Dat τ (Elt F) Unit ℕ (UR sig nD τ) ℕ cfg1 c where
  A w := W c (Proc.devRef .tc (Pipeline.arrRef spec1 w))
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => iblk1 W c 4 t
    | ⟨5, _⟩ => iblk1 W c 5 t
    | ⟨6, _⟩ => iblk1 W c 6 t
    | ⟨7, _⟩ => k1_pay2 (iblk1 W c 0 t) (iblk1 W c 1 t) (gate1 W c)
  Φ t := Phi1 W c t.val
  q _ := fullShare
  owed _ := 0

theorem A1_eq (c : Dev nD) (w : Fin cfg1.W) : (dat1 W c).A w = W c (Proc.devRef .tc (Pipeline.arrRef spec1 w)) := by
  dsimp only [dat1]

theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = iblk1 W c 3 t := by dsimp only [dat1]
theorem after1_4 (c : Dev nD) (t : Fin cfg1.N) : (dat1 W c).after 4 t = iblk1 W c 4 t := by dsimp only [dat1]
theorem after1_5 (c : Dev nD) (t : Fin cfg1.N) : (dat1 W c).after 5 t = iblk1 W c 5 t := by dsimp only [dat1]
theorem after1_6 (c : Dev nD) (t : Fin cfg1.N) : (dat1 W c).after 6 t = iblk1 W c 6 t := by dsimp only [dat1]
theorem after1_7 (c : Dev nD) (t : Fin cfg1.N) : (dat1 W c).after 7 t = k1_pay2 (iblk1 W c 0 t) (iblk1 W c 1 t) (gate1 W c) := by dsimp only [dat1]

theorem before1_0 (c : Dev nD) (t : Fin cfg1.N) (d) : (dat1 W c).before 0 t d = iblk1 W c 0 t :=
  ((dat1 W c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 W c).before 1 t d = iblk1 W c 1 t :=
  ((dat1 W c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
theorem before1_2 (c : Dev nD) (t : Fin cfg1.N) (d) : (dat1 W c).before 2 t d = iblk1 W c 2 t :=
  ((dat1 W c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)
theorem before1_3 (c : Dev nD) (t : Fin cfg1.N) (d) : (dat1 W c).before 3 t d = iblk1 W c 3 t :=
  ((dat1 W c).before_in_eq_fetched 3 rfl (fun _ => rfl) (fun _ _ _ => rfl) (fun t => by rw [after1_3]; unfold Dat.blockOf iblk1; rw [A1_eq]; try rfl) t d).trans
    (by unfold Dat.fetched Dat.blockOf iblk1; rw [A1_eq]; try rfl)
theorem before1_4 (c : Dev nD) (t : Fin cfg1.N) (d) : (dat1 W c).before 4 t d = iblk1 W c 4 t :=
  ((dat1 W c).before_in_eq_fetched 4 rfl (fun _ => rfl) (fun _ _ _ => rfl) (fun t => by rw [after1_4]; unfold Dat.blockOf iblk1; rw [A1_eq]; try rfl) t d).trans
    (by unfold Dat.fetched Dat.blockOf iblk1; rw [A1_eq]; try rfl)
theorem before1_5 (c : Dev nD) (t : Fin cfg1.N) (d) : (dat1 W c).before 5 t d = iblk1 W c 5 t :=
  ((dat1 W c).before_in_eq_fetched 5 rfl (fun _ => rfl) (fun _ _ _ => rfl) (fun t => by rw [after1_5]; unfold Dat.blockOf iblk1; rw [A1_eq]; try rfl) t d).trans
    (by unfold Dat.fetched Dat.blockOf iblk1; rw [A1_eq]; try rfl)
theorem before1_6 (c : Dev nD) (t : Fin cfg1.N) (d) : (dat1 W c).before 6 t d = iblk1 W c 6 t :=
  ((dat1 W c).before_in_eq_fetched 6 rfl (fun _ => rfl) (fun _ _ _ => rfl) (fun t => by rw [after1_6]; unfold Dat.blockOf iblk1; rw [A1_eq]; try rfl) t d).trans
    (by unfold Dat.fetched Dat.blockOf iblk1; rw [A1_eq]; try rfl)

/-- What the body is called with at point `t`, window by window. -/
def bodyPre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d))
    ∗ (∃ d, owns (c : Thread nD τ) (st1_4 t) fullShare ((dat1 W c).before 4 t d))
    ∗ (∃ d, owns (c : Thread nD τ) (st1_5 t) fullShare ((dat1 W c).before 5 t d))
    ∗ (∃ d, owns (c : Thread nD τ) (st1_6 t) fullShare ((dat1 W c).before 6 t d))
    ∗ (∃ d, owns (c : Thread nD τ) (st1_7 t) fullShare ((dat1 W c).before 7 t d)))

/-- What the body returns at point `t`, window by window. -/
def bodyPost1 (c : Dev nD) (t : Fin cfg1.N) : sProp 𝕄 :=
  iprop((dat1 W c).Φ t.succ ∗ (dat1 W c).owesAt () t.succ
    ∗ owns (c : Thread nD τ) (st1_0 t) fullShare ((dat1 W c).after 0 t)
    ∗ owns (c : Thread nD τ) (st1_1 t) fullShare ((dat1 W c).after 1 t)
    ∗ owns (c : Thread nD τ) (st1_2 t) fullShare ((dat1 W c).after 2 t)
    ∗ owns (c : Thread nD τ) (st1_3 t) fullShare ((dat1 W c).after 3 t)
    ∗ owns (c : Thread nD τ) (st1_4 t) fullShare ((dat1 W c).after 4 t)
    ∗ owns (c : Thread nD τ) (st1_5 t) fullShare ((dat1 W c).after 5 t)
    ∗ owns (c : Thread nD τ) (st1_6 t) fullShare ((dat1 W c).after 6 t)
    ∗ owns (c : Thread nD τ) (st1_7 t) fullShare ((dat1 W c).after 7 t))

set_option maxHeartbeats 3200000 in
/-- The body at any point: the first leaves the gate in the scratch, a later one finds it there. -/
theorem sound_body1 (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3, before1_4, before1_5, before1_6]
  rw [show (dat1 W c).Φ t.succ = Phi1 W c (t.val + 1) from rfl, show (dat1 W c).Φ t.castSucc = Phi1 W c t.val from rfl,
    Phi1_pos W c (t.val + 1) (Nat.succ_ne_zero _),
    show (dat1 W c).owesAt () t.succ = (dat1 W c).owesAt () t.castSucc from rfl,
    after1_0, after1_1, after1_2, after1_3, after1_4, after1_5, after1_6, after1_7]
  have hN : t.val < 10 := lt_of_lt_of_eq t.isLt (show cfg1.N = 10 from N_1)
  by_cases h0 : t.val % 10 = 0
  · obtain rfl : t = first1 := Fin.ext (show t.val = 0 by omega)
    rw [Phi1_zero W c first1.val rfl]
    iintro ⟨⟨⟨⟨%ds, HS⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run2A c (grid1.coords first1) _ _ _ _ _ _ _ _ _ _ _ _ _ _ _ _ _ _ (iblk1 W c 0 first1) (iblk1 W c 1 first1) (iblk1 W c 2 first1) (iblk1 W c 3 first1) (iblk1 W c 4 first1) (iblk1 W c 5 first1) (iblk1 W c 6 first1) _ _ ((hcond1 first1).mpr h0) Set.univ _)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    isplitl [HS]; · iexact HS
    iintro ⟨⟨H0, H1, H2, H3, H4, H5, H6⟩, H7, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Phi1_pos W c t.val (fun h => h0 (by rw [h]))]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run2B c (grid1.coords t) _ _ _ _ _ _ _ _ _ _ _ _ _ _ _ _ _ _ (iblk1 W c 0 t) (iblk1 W c 1 t) (iblk1 W c 2 t) (iblk1 W c 3 t) (iblk1 W c 4 t) (iblk1 W c 5 t) (iblk1 W c 6 t) _ _ (fun h => h0 ((hcond1 t).mp h)) Set.univ _)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    isplitl [HS]; · iexact HS
    iintro ⟨⟨H0, H1, H2, H3, H4, H5, H6⟩, H7, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body. -/
theorem defs₀_row1 (t : Fin cfg1.N) :
    defs₀ (F := F) .tc cfg1.body (cfg1.bodyArgs t (cfg1.slots t)) = bodyAt1 t := by
  unfold defs₀; rw [Defs.onTc_tc]

/-- The body obligation, at every point. -/
theorem body_obligation1 (c : Dev nD) : BodyObligation (dat1 W c) (defs₀ (F := F)) Variants.none () Set.univ := fun t => by
  rw [bigSep_W1, bigSep_W1, defs₀_row1]
  exact triple_restated (sound_body1 W c t) rfl .rfl fun _ => .rfl

end Cert.KernelIdeal.Hand

end
-- ==== Proof.KernelIdeal.Launch.lean ====
/- The launch of the whole program: the host operations and the two regions in order, what the result holds at the end. -/
module

public import proofs.«01_k».proof.Proof.KernelIdeal.Data0
public import proofs.«01_k».proof.Proof.KernelIdeal.Data1

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the first region leaves: its three outputs' arrays after the last point. -/
def outsA : Outs (F := F) := fun _ r c => Pipeline.afterRegion (dat0 (V1 m) c) (V1 m c) (Proc.devRef .tc r)

/-- What both regions leave. -/
def outsB : Outs (F := F) := fun j r c =>
  if j = 3 then Pipeline.afterRegion (dat1 (V2 m (outsA m)) c) (V2 m (outsA m) c) (Proc.devRef .tc r) else outsA m j r c

/-- The proof data of the two regions. -/
def pdats (p : Fin 2) (c : Dev nD) : Dat τ (Elt F) Unit ℕ (UR sig nD τ) ℕ (cfgs p) c :=
  match p with
  | ⟨0, _⟩ => dat0 (V1 m) c
  | ⟨1, _⟩ => dat1 (V2 m (outsB m)) c

/-- The second region's entry contents read only what the first region leaves. -/
theorem V2_outs (c : Dev nD) : V2 m (outsB m) c = V2 m (outsA m) c := rfl

/-- A region's exit contents are the valuation with its outputs replaced: a core's buffers are its tensor core's references. -/
theorem afterRegion_ref0 (c : Dev nD) (r : Ref sig .tc) :
    Pipeline.afterRegion (dat0 (V1 m) c) (V1 m c) (Proc.devRef .tc r) = V2 m (outsB m) c (Proc.devRef .tc r) := by
  by_cases h2 : r = main_v10_2
  · subst h2; simp only [V2]; rw [Function.update_self]; rfl
  by_cases h1 : r = main_v10_1
  · subst h1; simp only [V2]
    rw [Function.update_of_ne (StableHlo.devRef_ne_of_ne h2), Function.update_self]; rfl
  by_cases h0 : r = main_v10_0
  · subst h0; simp only [V2]
    rw [Function.update_of_ne (StableHlo.devRef_ne_of_ne h2), Function.update_of_ne (StableHlo.devRef_ne_of_ne h1), Function.update_self]; rfl
  refine (Pipeline.afterRegion_keeps (dat0 (V1 m) c) (V1 m c) launch0.win.arr_inj (A0_eq (V1 m) c) r ?_).trans
    (V2_of m (outsB m) c r (by simp [h0, h1, h2])).symm
  intro w hw
  subst hw
  fin_cases w
  all_goals first | rfl | exact absurd rfl h0 | exact absurd rfl h1 | exact absurd rfl h2

theorem afterRegion_eq0 (c : Dev nD) :
    ∀ b ∈ Pipeline.ucRefs τ sig, Pipeline.afterRegion (dat0 (V1 m) c) (V1 m c) b = V2 m (outsB m) c b := by
  intro b hb
  obtain ⟨r, -, rfl⟩ := Finset.mem_map.mp (Finset.mem_filter.mp hb).1
  exact afterRegion_ref0 m c r

/-- The same for the second region. -/
theorem afterRegion_ref1 (c : Dev nD) (r : Ref sig .tc) :
    Pipeline.afterRegion (dat1 (V2 m (outsB m)) c) (V2 m (outsB m) c) (Proc.devRef .tc r) = V3 m (outsB m) c (Proc.devRef .tc r) := by
  by_cases h0 : r = main_v11
  · subst h0; simp only [V3]; rw [Function.update_self]; rfl
  refine (Pipeline.afterRegion_keeps (dat1 (V2 m (outsB m)) c) (V2 m (outsB m) c) launch1.win.arr_inj (A1_eq (V2 m (outsB m)) c) r ?_).trans
    (V3_of m (outsB m) c r (by simp [h0])).symm
  intro w hw
  subst hw
  fin_cases w
  all_goals first | rfl | exact absurd rfl h0

theorem afterRegion_eq1 (c : Dev nD) :
    ∀ b ∈ Pipeline.ucRefs τ sig, Pipeline.afterRegion (dat1 (V2 m (outsB m)) c) (V2 m (outsB m) c) b = V3 m (outsB m) c b := by
  intro b hb
  obtain ⟨r, -, rfl⟩ := Finset.mem_map.mp (Finset.mem_filter.mp hb).1
  exact afterRegion_ref1 m c r

/-- Every counter of a tensor core carries the one index, at level zero. -/
abbrev Lx (g : GSem nD τ sig) : Finset Unit := if g.1.2 = .tc then {()} else ∅
abbrev lvx : GSem nD τ sig → Unit → ℕ := fun _ _ => 0

/-- What rides along between the items: the core owes nothing, the generator register is at some state. -/
abbrev Ex (_ : Fin 3) (c : Dev nD) : sProp 𝕄 :=
  iprop((∃ Wd, owes (c : Thread nD τ) (0 : CellTallies nD τ sig Unit) Wd) ∗ (∃ r, prngReg c r) ∗ emp)

theorem cut (p : Fin 2) : Pipeline.LevelCut (pcfgs (F := F)) adm () Lx lvx p (0 : Dev nD → CellTallies nD τ sig Unit) (fun _ => 0) where
  hι c w s := by simp [Lx]
  hιb c w s := le_refl _
  hD c g i h := absurd h (lt_irrefl _)

/-- The first region's record. -/
def R0 (hL : ∀ c t, Lims (F := F) (iblk0 (V1 m) c 0 t)) : RegionSeg (pcfgs (F := F)) adm (pdats m) () defs₀ Variants.none Lx lvx 0 :=
  RegionSeg.ofHeldIn (pcfgs (F := F)) adm (pdats m) () defs₀ Variants.none Lx lvx 0 0 (Pipeline.ucRefs τ sig)
    (fun c => iprop(∃ r, prngReg c r)) (fun c => iprop(∃ r, prngReg c r)) launch0.toP rfl
    (fun c => (body_obligation0 (V1 m) hL c).loose) (fun _ _ => rfl) (fun _ => rfl) (fun c => (dat0 (V1 m) c).share_full fun _ => rfl)
    (fun c => .rfl) (fun c => .rfl) (fun _ => 0) (cut 0) (fun _ => iprop(emp)) (V1 m) (fun c w => (A0_eq (V1 m) c w))

/-- The second region's record. -/
def R1 : RegionSeg (pcfgs (F := F)) adm (pdats m) () defs₀ Variants.none Lx lvx 1 :=
  RegionSeg.ofHeldIn (pcfgs (F := F)) adm (pdats m) () defs₀ Variants.none Lx lvx 1 0 (Pipeline.ucRefs τ sig)
    (fun c => iprop(∃ r, prngReg c r)) (fun c => iprop(∃ r, prngReg c r)) launch1.toP rfl
    (fun c => (body_obligation1 (V2 m (outsB m)) c).loose) (fun _ _ => rfl) (fun _ => rfl) (fun c => (dat1 (V2 m (outsB m)) c).share_full fun _ => rfl)
    (fun c => .rfl) (fun c => by
      show Phi1 (V2 m (outsB m)) c (Fin.last cfg1.N).val ⊢ _
      rw [Phi1_pos _ c _ (by rw [Fin.val_last]; have : cfg1.N = 10 := N_1; omega)]
      refine BIBase.Entails.trans ?_ (show iprop(((∃ d, owns (c : Thread nD τ) scM1 fullShare d) ∗ rest1 (F := F) c) ∗ ∃ r, prngReg c r) ⊢ _ from by
        rw [← scopedRest1_split]; exact .rfl)
      iintro ⟨⟨HS, Hr⟩, Hg⟩
      isplitl [HS Hr]
      · isplitl [HS]; · iexists _; iexact HS
        iexact Hr
      iexact Hg) (fun _ => 0) (cut 1) (fun _ => iprop(emp)) (V2 m (outsB m)) (fun c w => (A1_eq (V2 m (outsB m)) c w))

/-- The embedding of the pipelines' user algebra. -/
abbrev EPx : Emb (URounds (GSem nD τ sig) Unit) 𝕄 := emb₁

theorem sub0 : Pipeline.arrRefs (pcfgs (F := F) 0).spec ⊆ Pipeline.ucRefs τ sig := Pipeline.arrRefs_sub_ucRefs spec0 winFacts0.arr_unscoped
theorem sub1 : Pipeline.arrRefs (pcfgs (F := F) 1).spec ⊆ Pipeline.ucRefs τ sig := Pipeline.arrRefs_sub_ucRefs spec1 winFacts1.arr_unscoped

theorem hpre0 (hL) (c : Dev nD) : iprop(StableHlo.held (c : Thread nD τ) (Pipeline.ucRefs τ sig) (V1 m c) ∗ Ex (F := F) 0 c) ⊢ (R0 m hL).pre c := by
  unfold R0
  exact RegionSeg.ofHeldIn_pre (D := (0 : Dev nD → CellTallies nD τ sig Unit)) (X := fun c => iprop(∃ r, prngReg c r)) (Y := fun c => iprop(∃ r, prngReg c r)) (R := fun _ => iprop(emp)) (W := V1 m) sub0 c

theorem hpost0 (hL) (c : Dev nD) : (R0 m hL).post c ⊢ iprop(StableHlo.held (c : Thread nD τ) (Pipeline.ucRefs τ sig) (V2 m (outsB m) c) ∗ Ex (F := F) 1 c) := by
  rw [← StableHlo.held_congr (c.tc : Thread nD τ) (afterRegion_eq0 m c)]
  exact RegionSeg.ofHeldIn_post sub0 c

theorem hpre1 (c : Dev nD) : iprop(StableHlo.held (c : Thread nD τ) (Pipeline.ucRefs τ sig) (V2 m (outsB m) c) ∗ Ex (F := F) 1 c) ⊢ (R1 m).pre c := by
  unfold R1
  exact RegionSeg.ofHeldIn_pre (D := (0 : Dev nD → CellTallies nD τ sig Unit)) (X := fun c => iprop(∃ r, prngReg c r)) (Y := fun c => iprop(∃ r, prngReg c r)) (R := fun _ => iprop(emp)) (W := V2 m (outsB m)) sub1 c

theorem hpost1 (c : Dev nD) : (R1 m).post c ⊢ iprop(StableHlo.held (c : Thread nD τ) (Pipeline.ucRefs τ sig) (V3 m (outsB m) c) ∗ Ex (F := F) 2 c) := by
  rw [← StableHlo.held_congr (c.tc : Thread nD τ) (afterRegion_eq1 m c)]
  exact RegionSeg.ofHeldIn_post sub1 c

/-- The result's array ends at what the second region's output window holds after the last point. -/
theorem V3_result (c : Dev nD) : V3 m (outsB m) c main_v11 = (dat1 (V2 m (outsB m)) c).arrAt 7 cfg1.N :=
  (afterRegion_ref1 m c main_v11).symm.trans (Pipeline.afterRegion_arr (dat1 (V2 m (outsB m)) c) (V2 m (outsB m) c) launch1.win.arr_inj 7)

set_option backward.isDefEq.respectTransparency.types false in
/-- THE RUN. Every weakly fair execution terminates; every final state holds each argument as launched and the result at the second
    region's output array, and has every semaphore counter at zero. -/
theorem run (hL : ∀ c t, Lims (F := F) (iblk0 (V1 m) c 0 t)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_v11) = (dat1 (V2 m (outsB m)) c).arrAt 7 cfg1.N)
      ∧ r.2.sem = fun _ => 0) := by
  refine Pipeline.θ_run_regions_kit_dev_sems (pcfgs (F := F)) adm (pdats m) () cellOf_inj EPx defs₀ Variants.none Lx lvx m ρ main
    (segs m Variants.none Lx lvx (Ex (F := F)) () (pdats m) (R0 m hL) (R1 m))
    (fun c Q => by
      rewrite [main_chain c, Seg.run_eq_chain,
        show (segs m Variants.none Lx lvx (Ex (F := F)) () (pdats m) (R0 m hL) (R1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (0 : Dev nD → CellTallies nD τ sig Unit)
    (fun g hg => if_neg hg) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ Ex (F := F) 0 c))
    (Tₙ := fun c => StableHlo.held (c : Thread nD τ) (Pipeline.ucRefs τ sig) (V3 m (outsB m) c))
    (hch := fun c => ⟨.rfl, hpre0 m hL c, (hpost0 m hL c).trans (hpre1 m c), (hpost1 m c).trans (sep_mono .rfl (by
      iintro ⟨HO, -, -⟩; iexact HO))⟩)
    (hinit := ?_) (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_v11) = (dat1 (V2 m (outsB m)) c).arrAt 7 cfg1.N)
    (hfin := fun c s' => ?_) (hQ := fun _ h hz => ⟨h, funext fun g => hz g (.inr (regions_no_unscoped g.2))⟩)
  · -- the pipelines' user resource, and nothing else
    iintro Hu; imodintro
    isplitl [Hu]
    · iapply (show (ownU _ : sProp 𝕄) ⊢ BI.own (EPx (F := F) (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch: the unscoped buffers are held at the launch contents
    refine Pipeline.initEach Lx lvx fun c => ?_
    rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [HO]; · iexists _; iexact HO
    isplitl [Hp]; · iexists _; iexact Hp
    iempintro
  · -- the end: each argument's buffer and the result's read off the last valuation
    unfold StableHlo.held
    iintro ⟨Hh, HSI⟩
    ihave Hr := (pointsTo_read_all (Pipeline.ucRefs τ sig) (fun b => ((c : Thread nD τ).1, b)) (V3 m (outsB m) c) s') $$ [Hh HSI]
    · isplitl [Hh] <;> iassumption
    icases Hr with ⟨%h, HSI⟩
    imodintro
    isplitr
    · ipureintro
      have e : ∀ r : Ref sig .tc, r.isScoped = false → s'.mem.mem ((c.tc : Thread nD τ).loc r) = V3 m (outsB m) c r := fun r hr =>
        h (Proc.devRef .tc r) (Finset.mem_filter.mpr ⟨StableHlo.devRef_mem_tcRefs r, fun hs => Bool.false_ne_true (hr.symm.trans hs)⟩)
      exact ⟨(e main_arg0 rfl).trans (V3_main_arg0 m (outsB m) c), (e main_arg1 rfl).trans (V3_main_arg1 m (outsB m) c), (e main_arg2 rfl).trans (V3_main_arg2 m (outsB m) c), (e main_arg3 rfl).trans (V3_main_arg3 m (outsB m) c), (e main_arg4 rfl).trans (V3_main_arg4 m (outsB m) c), (e main_arg5 rfl).trans (V3_main_arg5 m (outsB m) c), (e main_arg6 rfl).trans (V3_main_arg6 m (outsB m) c), (e main_arg7 rfl).trans (V3_main_arg7 m (outsB m) c),
        (e main_v11 rfl).trans (V3_result m c)⟩
    · iexact HSI

end Cert.KernelIdeal.Hand

end
-- ==== Proof.KernelIdeal.Limits.lean ====
/- The row limits the first pallas_call reads: words of the group array in range, so its row loops are meaningful. -/
module

public import proofs.«01_k».proof.Proof.KernelIdeal.Data0
public import proofs.«01_k».proof.Proof.Gen.Pre_sorted_segments
public import Idealize.ShloMosaic.Lib.Pipeline.ValueKit
public import Idealize.ShloMosaic.Lib.ReduceAll

@[expose] public section

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-- A row loop goes from its first group through its last, by ones. -/
theorem loop1 (a b : BitVec 32) : k0_t1_loop a b = ⟨a, b + 1#32, 1#32⟩ := by
  have h : a + (b + 1#32 - a) = b + 1#32 := by rw [BitVec.add_comm, BitVec.sub_add_cancel]
  simp only [k0_t1_loop, Scalar.addi, Scalar.subi, Scalar.muli, Scalar.divsi, IntOp.muli, IntOp.addi, IntOp.subi, WordArith.divsi_one, BitVec.mul_one, h]

/-- The number of trips of a row loop between two groups. -/
theorem trips1 (a b : BitVec 32) (ha : 0 ≤ a.toInt ∧ a.toInt < 64) (hb : 0 ≤ b.toInt ∧ b.toInt < 64) :
    (k0_t1_loop a b).trips = (b.toInt + 1 - a.toInt).toNat := by
  rw [loop1]
  have h1 : (1#32 : BitVec 32).toInt = 1 := by decide
  have hb1 : (b + 1#32).toInt = b.toInt + 1 := by
    rw [BitVec.toInt_add, h1]
    exact Int.bmod_eq_of_le (by omega) (by omega)
  show Scf.trips a (b + 1#32) 1#32 = _
  unfold Scf.trips
  rw [h1, hb1]
  omega

/-- Trip `k`'s group. -/
theorem iv1 (a : BitVec 32) (ha : 0 ≤ a.toInt ∧ a.toInt < 64) (k : ℕ) (hk : a.toInt + k < 64) :
    (Scf.iv a 1#32 k).toInt = a.toInt + k := by
  unfold Scf.iv
  rw [BitVec.mul_one, BitVec.toInt_add, BitVec.toInt_ofNat']
  rw [show (k : ℤ).bmod (2 ^ 32) = k from Int.bmod_eq_of_le (by omega) (by omega)]
  exact Int.bmod_eq_of_le (by omega) (by omega)

/-- A row loop between two groups in range is meaningful and stays within the accumulator. -/
theorem chk1 (a b : BitVec 32) (ha : 0 ≤ a.toInt ∧ a.toInt < 64) (hb : 0 ≤ b.toInt ∧ b.toInt < 64) : k0_chk1 a b := by
  have h1 : (1#32 : BitVec 32).toInt = 1 := by decide
  have ht := trips1 a b ha hb
  have h2 : (k0_t2_loop a b).trips = 0 := no_trips _ _
  have hl : a.toInt + (k0_t1_loop a b).trips * (1#32 : BitVec 32).toInt < 2 ^ (32 - 1) := by rw [ht, h1]; omega
  have hub : (k0_t2_loop a b).lb = b + 1#32 := congrArg Scf.Loop.ub (loop1 a b)
  have hb1 : (b + 1#32).toInt = b.toInt + 1 := by
    rw [BitVec.toInt_add, h1]
    exact Int.bmod_eq_of_le (by omega) (by omega)
  refine ⟨⟨by show 0 < (1#32 : BitVec 32).toInt; decide, hl⟩, fun k => ?_, ⟨by show 0 < (1#32 : BitVec 32).toInt; decide, ?_⟩, fun k => absurd (lt_of_lt_of_eq k.isLt h2) (by omega)⟩
  · have hk := lt_of_lt_of_eq k.isLt ht
    have hi := iv1 a ha k.val (by omega)
    have hn : (Scf.iv a 1#32 k.val).toNat < 64 := by
      have := BitVec.toInt_eq_toNat_cond (Scf.iv a 1#32 k.val)
      split at this <;> omega
    refine Fin.forall_fin_two.mpr ⟨?_, by show 0 + 512 ≤ 512; omega⟩
    show (Scf.iv a 1#32 k.val).toNat + 1 ≤ 64
    omega
  · show (k0_t2_loop a b).lb.toInt + ((k0_t2_loop a b).trips : ℤ) * _ < _
    rw [h2, hub, hb1]
    show _ + (0 : ℕ) * _ < (2 ^ (32 - 1) : ℤ)
    omega

variable (m : (ℓ : Loc nD τ sig) → Buf (Elt F) ℓ)

/-- The group array on core `c`, as launched. -/
abbrev groups (c : Dev nD) : IVec S50000 32 := m ((c.tc : Thread nD τ).loc main_arg1)

/-- The rows of limits as the host computes them from the group array. -/
def limsOf (g : IVec S50000 32) : IVec S25x1x10 32 :=
  shapeCast S25x1x10
    (concatenate S125x2 1
      [⟨S125x1, broadcastInDim S125x1 ![0] bcast_S125_S125x1_0 (Host.slice S125 ![0] ![400] g slicesBy_S50000_S125_0s400)⟩,
       ⟨S125x1, broadcastInDim S125x1 ![0] bcast_S125_S125x1_0 (Host.slice S125 ![399] ![400] g slicesBy_S50000_S125_399s400)⟩]
      concatenates_S125x1_S125x1_S125x2_d1)
    shapeCasts_S125x2_S25x1x10

/-- Word `k` of row `t` of the limits is the group of the first (`k` even) or the last (`k` odd) node of a chunk of 400. -/
theorem limsOf_at (g : IVec S50000 32) (t : Fin 25) (z : Fin 1) (k : Fin 10) :
    limsOf g (ix3 t z k) = g (ix1 ⟨(5 * t.val + k.val / 2) * 400 + 399 * (k.val % 2), by omega⟩) := by
  pointwise [limsOf]
  by_cases h : k.val % 2 < 1
  · rw [dif_pos h]; congr 2; refine Fin.ext ?_; show _ = (5 * t.val + k.val / 2) * 400 + 399 * (k.val % 2); dsimp only; omega
  · rw [dif_neg h]; congr 2; refine Fin.ext ?_; show _ = (5 * t.val + k.val / 2) * 400 + 399 * (k.val % 2); dsimp only; omega

/-- The limits' array as the first region finds it. -/
theorem V1_lims (c : Dev nD) : V1 m c main_v6 = limsOf (groups m c) := by
  unfold_abbrev_sides
  after_results
  rfl

/-- The groups' column as the regions find it. -/
theorem V1_bcol (c : Dev nD) : V1 m c main_v0 = shapeCast S50000x1 (groups m c) shapeCasts_S50000_S50000x1 := by
  unfold_abbrev_sides
  after_results
  rfl

theorem idx0 : ∀ t : Fin cfg0.N, win0_0.index t = ![t.val, 0, 0] ∧ win0_1.index t = ![t.val, 0] ∧ win0_2.index t = ![t.val, 0] ∧
    win0_3.index t = ![0, 0] ∧ win0_4.index t = ![0, 0] ∧ win0_5.index t = ![0, 0] ∧ win0_6.index t = ![0, 0] ∧
    win0_7.index t = ![0, 0] ∧ win0_8.index t = ![0, 0] ∧ win0_9.index t = ![0, 0] := by decide +kernel

/-- The limits' block at a grid point. -/
theorem iblk0_lims (c : Dev nD) (t : Fin cfg0.N) (k : Fin 10) :
    iblk0 (V1 m) c 0 t (ix3 0 0 k) = limsOf (groups m c) (ix3 t 0 k) := by
  rw [← V1_lims]
  have h := (idx0 t).1
  blk_ext [iblk0, h]

/-- With every group in range, each grid point's row of limits is meaningful. -/
theorem lims_ok (c : Dev nD) (hg : ∀ i, 0 ≤ (groups m c i).toInt ∧ (groups m c i).toInt < 64) (t : Fin cfg0.N) :
    Lims (F := F) (iblk0 (V1 m) c 0 t) := by
  have h : ∀ k : Fin 10, 0 ≤ (lim (F := F) (iblk0 (V1 m) c 0 t) k).toInt ∧ (lim (F := F) (iblk0 (V1 m) c 0 t) k).toInt < 64 := fun k => by
    show 0 ≤ (iblk0 (V1 m) c 0 t (ix3 0 0 k)).toInt ∧ (iblk0 (V1 m) c 0 t (ix3 0 0 k)).toInt < 64
    rw [iblk0_lims]
    exact (limsOf_at (groups m c) t 0 k) ▸ hg _
  exact ⟨chk1 _ _ (h 0) (h 1), chk1 _ _ (h 2) (h 3), chk1 _ _ (h 4) (h 5), chk1 _ _ (h 6) (h 7), chk1 _ _ (h 8) (h 9)⟩

end Cert.KernelIdeal.Hand
-- ==== Proof.Shared.Pre.lean ====
/- What the precondition says of the group array: every group lies in range and no group is less than the one before it. -/
module

public import proofs.«01_k».proof.Proof.Gen.Pre_sorted_segments
public import Idealize.ShloMosaic.Lib.ReduceAll
public import Idealize.ShloMosaic.Lib.Pointwise

@[expose] public section

noncomputable section

namespace Cert.Pre_sorted_segments.Hand

open Cert.Pre_sorted_segments Cert.Pre_sorted_segments.Facts Cert.Pre_sorted_segments.Gen
open Idealize.ShloMosaic

variable {F : FTy → Type} [FloatOps F]

/-- The precondition read: every group lies in `[0, 64)`, and the groups are non-decreasing from each node to the next. -/
theorem groups_spec (x : FVec F S50000x512 .f32) (g : IVec S50000 32) (w1 : FVec F S512x512 .f32) (b1 : FVec F S512 .f32)
    (w2 : FVec F S512x512 .f32) (b2 : FVec F S512 .f32) (w3 : FVec F S1024x512 .f32) (b3 : FVec F S512 .f32)
    (h : Cert.Pre_sorted_segments.fn (F := F) x g w1 b1 w2 b2 w3 b3 = fun _ => 1#1) :
    (∀ i, 0 ≤ (g i).toInt ∧ (g i).toInt < 64) ∧ ∀ k : Fin 49999, (g (ix1 ⟨k.val, by omega⟩)).toInt ≤ (g (ix1 ⟨k.val + 1, by omega⟩)).toInt := by
  have h0 := congrFun h (ix0)
  obtain ⟨h1, h2⟩ := IntOp.andi_eq_one.1 h0
  obtain ⟨h3, h4⟩ := IntOp.andi_eq_one.1 h1
  refine ⟨fun i => ⟨?_, ?_⟩, fun k => ?_⟩
  · exact IntOp.cmpi_sge.1 (Host.reduce_andi_all _ _ _ _ _ h3 i)
  · exact IntOp.cmpi_slt.1 (Host.reduce_andi_all _ _ _ _ _ h4 i)
  · have := IntOp.cmpi_sle.1 (Host.reduce_andi_all _ _ _ _ _ h2 (ix1 k))
    pointwise at this
    rw [show (⟨k.val + 1, by omega⟩ : Fin 50000) = ⟨1 + k.val, by omega⟩ from Fin.ext (Nat.add_comm _ _)]
    exact this

end Cert.Pre_sorted_segments.Hand
-- ==== Proof.KernelIdeal.Runs.lean ====
/- The run of the whole program from the precondition: it terminates, its arguments stay, its result is the second region's output array. -/
module

public import proofs.«01_k».proof.Proof.KernelIdeal.Launch
public import proofs.«01_k».proof.Proof.KernelIdeal.Limits
public import proofs.«01_k».proof.Proof.Shared.Pre
public import proofs.«01_k».proof.Defs

@[expose] public section

noncomputable section

namespace Cert.KernelIdeal.Hand

open Cert.KernelIdeal Cert.KernelIdeal.Gen
open Idealize.ShloMosaic Idealize.ShloMosaic.TcCoe Idealize.SL.Sem

/-- The precondition bounds every group and orders the groups. -/
theorem groups_pre (m : (ℓ : Loc nD τ sig) → Buf (Elt Ideal) ℓ) (hm : Cert.Pre_KernelIdeal m) (c : Dev nD) :
    (∀ i, 0 ≤ (groups m c i).toInt ∧ (groups m c i).toInt < 64) ∧
      ∀ k : Fin 49999, (groups m c (ix1 ⟨k.val, by omega⟩)).toInt ≤ (groups m c (ix1 ⟨k.val + 1, by omega⟩)).toInt :=
  Cert.Pre_sorted_segments.Hand.groups_spec _ _ _ _ _ _ _ _ (hm c)

/-- Under the precondition each grid point's row of limits is meaningful. -/
theorem lims_pre (m : (ℓ : Loc nD τ sig) → Buf (Elt Ideal) ℓ) (hm : Cert.Pre_KernelIdeal m) (c : Dev nD) (t : Fin cfg0.N) :
    Lims (F := Ideal) (iblk0 (V1 m) c 0 t) :=
  lims_ok m c (groups_pre m hm c).1 t

/-- The program runs, leaves its arguments unchanged and ends quiescent. -/
theorem frame : Cert.quiescent_KernelIdeal := fun m g hm =>
  (θ_run _ _ _).mono (fun _ h => ⟨fun c =>
    have e := h.1 c
    ⟨e.1, e.2.1, e.2.2.1, e.2.2.2.1, e.2.2.2.2.1, e.2.2.2.2.2.1, e.2.2.2.2.2.2.1, e.2.2.2.2.2.2.2.1⟩, h.2⟩)
    (run m g (lims_pre m hm))

end Cert.KernelIdeal.Hand
-- ==== Proof.Kernel.Runs.lean ====
/- The run of the whole program from the precondition: it terminates, its arguments stay, its result is the second region's output array. -/
module

public import proofs.«01_k».proof.Proof.Kernel.Launch
public import proofs.«01_k».proof.Proof.Kernel.Limits
public import proofs.«01_k».proof.Proof.Shared.Pre
public import proofs.«01_k».proof.Defs

@[expose] public section

noncomputable section

namespace Cert.Kernel.Hand

open Cert.Kernel Cert.Kernel.Gen
open Idealize.ShloMosaic Idealize.ShloMosaic.TcCoe Idealize.SL.Sem

/-- The precondition bounds every group and orders the groups. -/
theorem groups_pre (m : (ℓ : Loc nD τ sig) → Buf (Elt Bits) ℓ) (hm : Cert.Pre_Kernel m) (c : Dev nD) :
    (∀ i, 0 ≤ (groups m c i).toInt ∧ (groups m c i).toInt < 64) ∧
      ∀ k : Fin 49999, (groups m c (ix1 ⟨k.val, by omega⟩)).toInt ≤ (groups m c (ix1 ⟨k.val + 1, by omega⟩)).toInt :=
  Cert.Pre_sorted_segments.Hand.groups_spec _ _ _ _ _ _ _ _ (hm c)

/-- Under the precondition each grid point's row of limits is meaningful. -/
theorem lims_pre (m : (ℓ : Loc nD τ sig) → Buf (Elt Bits) ℓ) (hm : Cert.Pre_Kernel m) (c : Dev nD) (t : Fin cfg0.N) :
    Lims (F := Bits) (iblk0 (V1 m) c 0 t) :=
  lims_ok m c (groups_pre m hm c).1 t

/-- The program runs, leaves its arguments unchanged and ends quiescent. -/
theorem frame : Cert.quiescent_Kernel := fun m g hm =>
  (θ_run _ _ _).mono (fun _ h => ⟨fun c =>
    have e := h.1 c
    ⟨e.1, e.2.1, e.2.2.1, e.2.2.2.1, e.2.2.2.2.1, e.2.2.2.2.2.1, e.2.2.2.2.2.2.1, e.2.2.2.2.2.2.2.1⟩, h.2⟩)
    (run m g (lims_pre m hm))

end Cert.Kernel.Hand
-- ==== Proof.ReferenceIdeal.Frame.lean ====
/- The reference runs, leaves its arguments unchanged and ends quiescent. -/
module

public import proofs.«01_k».proof.Proof.Gen.ReferenceIdeal.Run
public import proofs.«01_k».proof.Proof.Gen.Pre_sorted_segments
public import proofs.«01_k».proof.Defs
public import Idealize.ShloMosaic.Lib.Quiescent

@[expose] public section

noncomputable section

namespace Cert.ReferenceIdeal.Hand

open Cert.ReferenceIdeal Cert.ReferenceIdeal.Gen
open Idealize.ShloMosaic Idealize.ShloMosaic.TcCoe Idealize.SL.Sem

/-- The reference runs, leaves its arguments unchanged and ends quiescent. -/
theorem frame : Cert.quiescent_ReferenceIdeal := fun m g _ =>
  (θ_run _ _ _).mono (fun r h => ⟨fun c => (h c).2, sem_eq_zero_of_no_sems (by decide) r.2⟩) (Cert.ReferenceIdeal.Value.run m g)

/-- The same under the precondition. -/
theorem frame_pre : Cert.quiescent_ReferenceIdeal_pre_sorted_segments := fun m g _ => frame m g trivial

end Cert.ReferenceIdeal.Hand
-- ==== Proof.Shared.Latent.lean ====
/- One node's latent features, and one group's gate, as plain functions of extended reals. -/
module

public import Idealize.ShloMosaic.Lib.Pipeline.ValueKit

@[expose] public section

noncomputable section

namespace Cert.Hand

open Idealize.ShloMosaic

/-- Component `j` of the hidden layer of the node with features `x`, before its activation. -/
def hidRow (x : Fin 512 → EReal) (w1 : Fin 512 → Fin 512 → EReal) (b1 : Fin 512 → EReal) (j : Fin 512) : EReal :=
  ∑ i, x i * w1 i j + b1 j

/-- Component `k` of the latent features of the node with features `x`. -/
def latRow (x : Fin 512 → EReal) (w1 : Fin 512 → Fin 512 → EReal) (b1 : Fin 512 → EReal)
    (w2 : Fin 512 → Fin 512 → EReal) (b2 : Fin 512 → EReal) (k : Fin 512) : EReal :=
  ∑ j, (if 0 ≤ hidRow x w1 b1 j then hidRow x w1 b1 j else Ideal.ofBits .f32 1045220557#32 * hidRow x w1 b1 j) * w2 j k + b2 k

/-- Component `k` of a group's gate from its sums `s`, its count `n` and its maxima `M`. -/
def gateRow (s : Fin 512 → EReal) (n : EReal) (M : Fin 512 → EReal) (w3 w4 : Fin 512 → Fin 512 → EReal)
    (b3 : Fin 512 → EReal) (k : Fin 512) : EReal :=
  Ideal.logistic (∑ x, Ideal.div (s x) (max n 1) * w3 x k + ∑ x, (if 0 < n then M x else 0) * w4 x k + b3 k)

/-- Equal sums, counts, maxima and weights give equal gates. -/
theorem gateRow_congr {s s' M M' b3 b3' : Fin 512 → EReal} {n n' : EReal} {w3 w3' w4 w4' : Fin 512 → Fin 512 → EReal}
    (hs : ∀ x, s x = s' x) (hn : n = n') (hM : ∀ x, M x = M' x) (h3 : ∀ x y, w3 x y = w3' x y) (h4 : ∀ x y, w4 x y = w4' x y)
    (hb : ∀ y, b3 y = b3' y) (k : Fin 512) : gateRow s n M w3 w4 b3 k = gateRow s' n' M' w3' w4' b3' k := by
  rw [funext hs, hn, funext hM, funext fun x => funext (h3 x), funext fun x => funext (h4 x), funext hb]

/-- The word of negative infinity is the least extended real. -/
theorem negInf : Ideal.ofBits .f32 4286578688#32 = (⊥ : EReal) := by
  simp [Ideal.ofBits, Ideal.ieee]

/-- The word of zero is zero. -/
theorem zeroWord : Ideal.ofBits .f32 0#32 = (0 : EReal) := Ideal.ofBits_zero_f32

end Cert.Hand
-- ==== Proof.Shared.Words.lean ====
/- Group words against group numbers. -/
module

public import Idealize.ShloMosaic.Lib.Pipeline.ValueKit

@[expose] public section

noncomputable section

namespace Cert.Hand

open Idealize.ShloMosaic

/-- A word is a small number's word exactly when it denotes the number. -/
theorem word_eq (w : BitVec 32) (q : ℕ) (hq : q < 64) : w = BitVec.ofNat 32 q ↔ w.toInt = (q : ℤ) := by
  have h : (BitVec.ofNat 32 q).toInt = (q : ℤ) := by
    rw [BitVec.toInt_ofNat']
    exact Int.bmod_eq_of_le (by omega) (by omega)
  exact ⟨fun e => e ▸ h, fun e => BitVec.eq_of_toInt_eq (e.trans h.symm)⟩

/-- An equality test as a bit. -/
theorem eq_bit (a b : BitVec 32) : IntOp.cmpi .eq a b = if a = b then 1#1 else 0#1 := by
  by_cases h : a = b
  · simp [IntOp.cmpi, h]
  · have hb : (a == b) = false := by simpa using h
    simp only [IntOp.cmpi, hb, if_neg h]
    rfl

/-- An equality test as an extended real: one where it holds, zero elsewhere. -/
theorem one_hot (a b : BitVec 32) :
    (FloatOps.sitofp (F := Ideal) FTy.f32 (BitVec.setWidth 32 (IntOp.cmpi .eq a b)) : EReal) = if a = b then 1 else 0 := by
  rw [eq_bit]
  by_cases h : a = b
  · rw [if_pos h, if_pos h]
    show (((BitVec.setWidth 32 1#1).toInt : ℝ) : EReal) = 1
    rw [show (BitVec.setWidth 32 1#1).toInt = 1 by decide]
    norm_num
  · rw [if_neg h, if_neg h]
    show (((BitVec.setWidth 32 0#1).toInt : ℝ) : EReal) = 0
    rw [show (BitVec.setWidth 32 0#1).toInt = 0 by decide]
    norm_num

/-- An equality test choosing between two values. -/
theorem select_eq {α : Type} (a b : BitVec 32) (x y : α) : Scalar.select (IntOp.cmpi .eq a b) x y = if a = b then x else y := by
  rw [eq_bit]
  by_cases h : a = b
  · rw [if_pos h, if_pos h]; rfl
  · rw [if_neg h, if_neg h]; rfl

end Cert.Hand
-- ==== Proof.KernelIdeal.Point.lean ====
/- The kernel's stored blocks read at an index, on the extended reals. -/
module

public import proofs.«01_k».proof.Proof.KernelIdeal.Limits
public import proofs.«01_k».proof.Proof.KernelIdeal.Data1
public import proofs.«01_k».proof.Proof.Shared.Latent
public import proofs.«01_k».proof.Proof.Shared.Words
public import Idealize.ShloMosaic.Lib.Pipeline.ValueKit

@[expose] public section

set_option maxRecDepth 16384

noncomputable section

namespace Cert.KernelIdeal.Hand

open Cert.KernelIdeal Cert.KernelIdeal.Gen Cert.Hand
open Idealize.ShloMosaic Idealize.ShloMosaic.TcCoe Idealize.SL.Sem

/-- A block's latent features, row by row. -/
theorem latent_at (x : FVec Ideal S2000x512 .f32) (w1 : FVec Ideal S512x512 .f32) (b1 : FVec Ideal S1x512 .f32) (w2 : FVec Ideal S512x512 .f32)
    (b2 : FVec Ideal S1x512 .f32) (r : Fin 2000) (k : Fin 512) :
    k0_pay6 (F := Ideal) x w1 b1 w2 b2 (ix2 r k)
      = latRow (fun i => x (ix2 r i)) (fun i j => w1 (ix2 i j)) (fun j => b1 (ix2 0 j)) (fun i j => w2 (ix2 i j)) (fun j => b2 (ix2 0 j)) k := by
  pointwise [k0_pay6]
  rfl

/-- The sums after a block: each group gains its members of the block. -/
theorem sumStep_at (b : Vec Ideal S2000x1 .i32) (x : FVec Ideal S2000x512 .f32) (w1 : FVec Ideal S512x512 .f32) (b1 : FVec Ideal S1x512 .f32)
    (w2 : FVec Ideal S512x512 .f32) (b2 : FVec Ideal S1x512 .f32) (s : FVec Ideal S64x512 .f32) (q : Fin 64) (k : Fin 512) :
    sumStep (F := Ideal) b x w1 b1 w2 b2 s (ix2 q k)
      = s (ix2 q k) + ∑ r : Fin 2000, if (b (ix2 r 0) : BitVec 32).toInt = (q.val : ℤ) then k0_pay6 (F := Ideal) x w1 b1 w2 b2 (ix2 r k) else 0 := by
  unfold sumStep
  pointwise [k0_pay9, k0_pay8, k0_pay7]
  refine congrArg (s (ix2 q k) + ·) (Finset.sum_congr rfl fun r _ => ?_)
  rw [one_hot, ite_mul, one_mul, zero_mul]
  exact if_congr (word_eq _ _ q.isLt) rfl rfl

/-- The counts after a block: each group gains one for each of its members of the block. -/
theorem cntStep_at (b : Vec Ideal S2000x1 .i32) (n : FVec Ideal S64x128 .f32) (q : Fin 64) (k : Fin 128) :
    cntStep (F := Ideal) b n (ix2 q k)
      = n (ix2 q k) + ∑ r : Fin 2000, if (b (ix2 r 0) : BitVec 32).toInt = (q.val : ℤ) then 1 else 0 := by
  unfold cntStep
  pointwise [k0_pay10, k0_pay8, k0_pay7]
  refine congrArg (n (ix2 q k) + ·) (Finset.sum_congr rfl fun r _ => ?_)
  rw [one_hot]
  exact if_congr (word_eq _ _ q.isLt) rfl rfl

/-- A joined row is at most `z` exactly when the old row is and each member of the group is. -/
theorem rowMax_le (l : FVec Ideal S400x512 .f32) (b : IVec S400x1 32) (g : BitVec 32) (row : Vec Ideal S1x512 .f32) (k : Fin 512) (z : EReal) :
    rowMax (F := Ideal) l b g row (ix2 0 k) ≤ z ↔ row (ix2 0 k) ≤ z ∧ ∀ r : Fin 400, b (ix2 r 0) = g → l (ix2 r k) ≤ z := by
  have h : rowMax (F := Ideal) l b g row (ix2 0 k) = max (row (ix2 0 k)) (Finset.fold max (Ideal.ofBits .f32 4286578688#32)
      (fun x => Scalar.select (IntOp.cmpi .eq (b (ix2 x 0)) g) (l (ix2 x k)) (Ideal.ofBits .f32 4286578688#32)) Finset.univ) := by
    pointwise [rowMax]
  rw [h, max_le_iff, Finset.fold_max_le, negInf]
  refine and_congr Iff.rfl ⟨fun h r hr => ?_, fun h => ⟨bot_le, fun r _ => ?_⟩⟩
  · have := h.2 r (Finset.mem_univ _)
    rwa [select_eq, if_pos hr] at this
  · rw [select_eq]
    split
    · exact h r ‹_›
    · exact bot_le

/-- The first `n` trips of a row loop join into each group they visit its members' rows. -/
theorem maxLoop_le (l : FVec Ideal S400x512 .f32) (b : IVec S400x1 32) (a : BitVec 32) (ha : 0 ≤ a.toInt ∧ a.toInt < 64)
    (M : Vec Ideal S64x512 .f32) (q : Fin 64) (k : Fin 512) (z : EReal) : ∀ n : ℕ, a.toInt + n ≤ 64 →
    (maxLoop (F := Ideal) l b a n M (ix2 q k) ≤ z ↔
      M (ix2 q k) ≤ z ∧ (a.toInt ≤ q.val ∧ (q.val : ℤ) < a.toInt + n → ∀ r : Fin 400, (b (ix2 r 0)).toInt = (q.val : ℤ) → l (ix2 r k) ≤ z))
  | 0, _ => by
    refine ⟨fun h => ⟨h, fun hq => absurd hq (by omega)⟩, fun h => h.1⟩
  | n + 1, hn => by
    have ih := maxLoop_le l b a ha M q k z n (by omega)
    have hi := iv1 a ha n (by omega)
    have hw := word_eq (Scf.iv a 1#32 n) q.val q.isLt
    have hnat : q.val = (Scf.iv a 1#32 n).toNat ↔ (Scf.iv a 1#32 n).toInt = (q.val : ℤ) := by
      have := BitVec.toInt_eq_toNat_cond (Scf.iv a 1#32 n)
      split at this <;> omega
    show (if q.val = (Scf.iv a 1#32 n).toNat then
        rowMax l b (Scf.iv a 1#32 n) (fun y => maxLoop l b a n M (ix2 q (y 1))) (ix2 0 k) else maxLoop l b a n M (ix2 q k)) ≤ z ↔ _
    by_cases hq : q.val = (Scf.iv a 1#32 n).toNat
    · rw [if_pos hq, rowMax_le]
      have e := hnat.mp hq
      have hg := hw.mpr e
      refine ⟨fun h => ⟨(ih.mp h.1).1, fun _ r hr => h.2 r ?_⟩, fun h => ⟨ih.mpr ⟨h.1, fun hb => absurd hb (by omega)⟩, fun r hr => h.2 (by omega) r ?_⟩⟩
      · exact BitVec.eq_of_toInt_eq (hr.trans e.symm)
      · rw [hr, e]
    · rw [if_neg hq, ih]
      have e := mt hnat.mpr hq
      refine and_congr Iff.rfl (imp_congr ?_ Iff.rfl)
      omega

/-- A chunk whose groups lie between the loop's limits: after its row loop every group has joined its members. -/
theorem chunk_le (l : FVec Ideal S400x512 .f32) (b : IVec S400x1 32) (a e : BitVec 32) (ha : 0 ≤ a.toInt ∧ a.toInt < 64) (he : 0 ≤ e.toInt ∧ e.toInt < 64)
    (hb : ∀ r : Fin 400, a.toInt ≤ (b (ix2 r 0)).toInt ∧ (b (ix2 r 0)).toInt ≤ e.toInt)
    (M : Vec Ideal S64x512 .f32) (q : Fin 64) (k : Fin 512) (z : EReal) :
    maxLoop (F := Ideal) l b a (k0_t1_loop a e).trips M (ix2 q k) ≤ z ↔
      M (ix2 q k) ≤ z ∧ ∀ r : Fin 400, (b (ix2 r 0)).toInt = (q.val : ℤ) → l (ix2 r k) ≤ z := by
  have ht := trips1 a e ha he
  have h0 := hb 0
  rw [maxLoop_le l b a ha M q k z _ (by omega)]
  refine and_congr Iff.rfl ⟨fun h r hr => h ?_ r hr, fun h _ => h⟩
  have := hb r
  omega

/-- The maxima after a block: every group has joined its members of the block. -/
theorem maxStep_le (lims : Vec Ideal S1x1x10 .i32) (b : Vec Ideal S2000x1 .i32) (x : FVec Ideal S2000x512 .f32) (w1 : FVec Ideal S512x512 .f32)
    (b1 : FVec Ideal S1x512 .f32) (w2 : FVec Ideal S512x512 .f32) (b2 : FVec Ideal S1x512 .f32)
    (hl : ∀ j : Fin 10, 0 ≤ (lim (F := Ideal) lims j).toInt ∧ (lim (F := Ideal) lims j).toInt < 64)
    (hb : ∀ (j : Fin 5) (r : Fin 400), (lim (F := Ideal) lims ⟨2 * j.val, by omega⟩).toInt ≤ (b (ix2 ⟨400 * j.val + r.val, by omega⟩ 0) : BitVec 32).toInt ∧
      (b (ix2 ⟨400 * j.val + r.val, by omega⟩ 0) : BitVec 32).toInt ≤ (lim (F := Ideal) lims ⟨2 * j.val + 1, by omega⟩).toInt)
    (M : Vec Ideal S64x512 .f32) (q : Fin 64) (k : Fin 512) (z : EReal) :
    maxStep (F := Ideal) lims b x w1 b1 w2 b2 M (ix2 q k) ≤ z ↔
      M (ix2 q k) ≤ z ∧ ∀ r : Fin 2000, (b (ix2 r 0) : BitVec 32).toInt = (q.val : ℤ) → k0_pay6 (F := Ideal) x w1 b1 w2 b2 (ix2 r k) ≤ z := by
  unfold maxStep
  generalize k0_pay6 (F := Ideal) x w1 b1 w2 b2 = L
  have L0 : ∀ r : Fin 400, k0_pay11 (F := Ideal) L (ix2 r k) = L (ix2 ⟨400 * 0 + r.val, by omega⟩ k) := fun r => by pointwise [k0_pay11]
  have L1 : ∀ r : Fin 400, k0_pay15 (F := Ideal) L (ix2 r k) = L (ix2 ⟨400 * 1 + r.val, by omega⟩ k) := fun r => by pointwise [k0_pay15]
  have L2 : ∀ r : Fin 400, k0_pay19 (F := Ideal) L (ix2 r k) = L (ix2 ⟨400 * 2 + r.val, by omega⟩ k) := fun r => by pointwise [k0_pay19]
  have L3 : ∀ r : Fin 400, k0_pay23 (F := Ideal) L (ix2 r k) = L (ix2 ⟨400 * 3 + r.val, by omega⟩ k) := fun r => by pointwise [k0_pay23]
  have L4 : ∀ r : Fin 400, k0_pay27 (F := Ideal) L (ix2 r k) = L (ix2 ⟨400 * 4 + r.val, by omega⟩ k) := fun r => by pointwise [k0_pay27]
  have B0 : ∀ r : Fin 400, k0_pay12 (k0_pay7 (F := Ideal) b) (ix2 r 0) = b (ix2 ⟨400 * 0 + r.val, by omega⟩ 0) := fun r => by pointwise [k0_pay12, k0_pay7]
  have B1 : ∀ r : Fin 400, k0_pay16 (k0_pay7 (F := Ideal) b) (ix2 r 0) = b (ix2 ⟨400 * 1 + r.val, by omega⟩ 0) := fun r => by pointwise [k0_pay16, k0_pay7]
  have B2 : ∀ r : Fin 400, k0_pay20 (k0_pay7 (F := Ideal) b) (ix2 r 0) = b (ix2 ⟨400 * 2 + r.val, by omega⟩ 0) := fun r => by pointwise [k0_pay20, k0_pay7]
  have B3 : ∀ r : Fin 400, k0_pay24 (k0_pay7 (F := Ideal) b) (ix2 r 0) = b (ix2 ⟨400 * 3 + r.val, by omega⟩ 0) := fun r => by pointwise [k0_pay24, k0_pay7]
  have B4 : ∀ r : Fin 400, k0_pay28 (k0_pay7 (F := Ideal) b) (ix2 r 0) = b (ix2 ⟨400 * 4 + r.val, by omega⟩ 0) := fun r => by pointwise [k0_pay28, k0_pay7]
  rw [chunk_le _ _ (lim lims 8) (lim lims 9) (hl 8) (hl 9) (fun r => by rw [B4]; exact hb 4 r),
    chunk_le _ _ (lim lims 6) (lim lims 7) (hl 6) (hl 7) (fun r => by rw [B3]; exact hb 3 r),
    chunk_le _ _ (lim lims 4) (lim lims 5) (hl 4) (hl 5) (fun r => by rw [B2]; exact hb 2 r),
    chunk_le _ _ (lim lims 2) (lim lims 3) (hl 2) (hl 3) (fun r => by rw [B1]; exact hb 1 r),
    chunk_le _ _ (lim lims 0) (lim lims 1) (hl 0) (hl 1) (fun r => by rw [B0]; exact hb 0 r)]
  simp only [L0, L1, L2, L3, L4, B0, B1, B2, B3, B4]
  constructor
  · rintro ⟨⟨⟨⟨⟨h, h0⟩, h1⟩, h2⟩, h3⟩, h4⟩
    refine ⟨h, fun r hr => ?_⟩
    have split : ∀ j : Fin 5, (∀ r : Fin 400, (b (ix2 ⟨400 * j.val + r.val, by omega⟩ 0) : BitVec 32).toInt = (q.val : ℤ) → L (ix2 ⟨400 * j.val + r.val, by omega⟩ k) ≤ z) →
        r.val / 400 = j.val → L (ix2 r k) ≤ z := fun j hj e => by
      have er : r = ⟨400 * j.val + r.val % 400, by omega⟩ := Fin.ext (by show r.val = 400 * j.val + r.val % 400; omega)
      rw [er]
      exact hj ⟨r.val % 400, by omega⟩ (er ▸ hr)
    have hr5 : r.val / 400 < 5 := by omega
    interval_cases hj : r.val / 400
    · exact split 0 h0 rfl
    · exact split 1 h1 rfl
    · exact split 2 h2 rfl
    · exact split 3 h3 rfl
    · exact split 4 h4 rfl
  · rintro ⟨h, hr⟩
    exact ⟨⟨⟨⟨⟨h, fun r => hr _⟩, fun r => hr _⟩, fun r => hr _⟩, fun r => hr _⟩, fun r => hr _⟩

/-- The gates from the accumulators: each a plain function of its group's sums, count and maxima. -/
theorem gate_at (s : FVec Ideal S64x512 .f32) (n : FVec Ideal S64x128 .f32) (M : FVec Ideal S64x512 .f32) (w3 : FVec Ideal S1024x512 .f32)
    (b3 : FVec Ideal S1x512 .f32) (q : Fin 64) (k : Fin 512) :
    gateOf (F := Ideal) s n M w3 b3 (ix2 q k)
      = gateRow (fun x => s (ix2 q x)) (n (ix2 q 0)) (fun x => M (ix2 q x)) (fun x y => w3 (ix2 ⟨x.val, by omega⟩ y))
          (fun x y => w3 (ix2 ⟨512 + x.val, by omega⟩ y)) (fun y => b3 (ix2 0 y)) k := by
  unfold gateOf
  pointwise [k1_pay1]
  rfl

/-- The result's block: each node's features times its group's gate. -/
theorem out_at (b : Vec Ideal S5000x1 .i32) (x : FVec Ideal S5000x512 .f32) (g : FVec Ideal S64x512 .f32) (r : Fin 5000) (k : Fin 512) (q : Fin 64)
    (hq : (b (ix2 r 0) : BitVec 32).toInt = (q.val : ℤ)) :
    k1_pay2 (F := Ideal) b x g (ix2 r k) = x (ix2 r k) * g (ix2 q k) := by
  pointwise [k1_pay2]
  refine congrArg (x (ix2 r k) * ·) ?_
  rw [Finset.sum_eq_single q]
  · rw [one_hot, if_pos ((word_eq _ _ q.isLt).mpr hq), one_mul]
  · intro p _ hp
    rw [one_hot, if_neg (fun h => hp (Fin.ext (by have := (word_eq _ _ p.isLt).mp h; omega))), zero_mul]
  · exact fun h => absurd (Finset.mem_univ _) h

end Cert.KernelIdeal.Hand
-- ==== Proof.KernelIdeal.Blocks.lean ====
/- The two regions' blocks as rows of the launched arrays, and their output arrays as what their points left. -/
module

public import proofs.«01_k».proof.Proof.KernelIdeal.Launch
public import proofs.«01_k».proof.Proof.KernelIdeal.Limits
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F] (m : (ℓ : Loc nD τ sig) → Buf (Elt F) ℓ) (c : Dev nD)

/-- The three biases as rows, as the regions find them. -/
theorem V1_b1 : V1 m c main_v7 = shapeCast S1x512 (m ((c.tc : Thread nD τ).loc main_arg3)) shapeCasts_S512_S1x512 := by
  unfold_abbrev_sides
  after_results
  rfl
theorem V1_b2 : V1 m c main_v8 = shapeCast S1x512 (m ((c.tc : Thread nD τ).loc main_arg5)) shapeCasts_S512_S1x512 := by
  unfold_abbrev_sides
  after_results
  rfl
theorem V1_b3 : V1 m c main_v9 = shapeCast S1x512 (m ((c.tc : Thread nD τ).loc main_arg7)) shapeCasts_S512_S1x512 := by
  unfold_abbrev_sides
  after_results
  rfl

/-- The groups' block at a point of the first region. -/
theorem iblk0_groups (t : Fin cfg0.N) (r : Fin 2000) (ht : t.val < 25) :
    iblk0 (V1 m) c 1 t (ix2 r 0) = groups m c (ix1 ⟨2000 * t.val + r.val, by omega⟩) := by
  have e : (groups m c) (ix1 ⟨2000 * t.val + r.val, by omega⟩) = V1 m c main_v0 (ix2 ⟨2000 * t.val + r.val, by omega⟩ 0) := by
    rw [V1_bcol]; pointwise []
  rw [e]
  have h := (idx0 t).2.1
  blk_ext [iblk0, h]

/-- The nodes' block at a point of the first region. -/
theorem iblk0_x (t : Fin cfg0.N) (r : Fin 2000) (k : Fin 512) (ht : t.val < 25) :
    iblk0 (V1 m) c 2 t (ix2 r k) = m ((c.tc : Thread nD τ).loc main_arg0) (ix2 ⟨2000 * t.val + r.val, by omega⟩ k) := by
  have e : m ((c.tc : Thread nD τ).loc main_arg0) = V1 m c main_arg0 := (V1_of m c main_arg0 (by decide)).symm
  rw [e]
  have h := (idx0 t).2.2.1
  blk_ext [iblk0, h]

theorem iblk0_w1 (t : Fin cfg0.N) (i j : Fin 512) : iblk0 (V1 m) c 3 t (ix2 i j) = m ((c.tc : Thread nD τ).loc main_arg2) (ix2 i j) := by
  have e : m ((c.tc : Thread nD τ).loc main_arg2) = V1 m c main_arg2 := (V1_of m c main_arg2 (by decide)).symm
  rw [e]
  have h := (idx0 t).2.2.2.1
  blk_ext [iblk0, h]

theorem iblk0_b1 (t : Fin cfg0.N) (j : Fin 512) : iblk0 (V1 m) c 4 t (ix2 0 j) = m ((c.tc : Thread nD τ).loc main_arg3) (ix1 j) := by
  have e : m ((c.tc : Thread nD τ).loc main_arg3) (ix1 j) = V1 m c main_v7 (ix2 0 j) := by
    rw [V1_b1]; pointwise []
  rw [e]
  have h := (idx0 t).2.2.2.2.1
  blk_ext [iblk0, h]

theorem iblk0_w2 (t : Fin cfg0.N) (i j : Fin 512) : iblk0 (V1 m) c 5 t (ix2 i j) = m ((c.tc : Thread nD τ).loc main_arg4) (ix2 i j) := by
  have e : m ((c.tc : Thread nD τ).loc main_arg4) = V1 m c main_arg4 := (V1_of m c main_arg4 (by decide)).symm
  rw [e]
  have h := (idx0 t).2.2.2.2.2.1
  blk_ext [iblk0, h]

theorem iblk0_b2 (t : Fin cfg0.N) (j : Fin 512) : iblk0 (V1 m) c 6 t (ix2 0 j) = m ((c.tc : Thread nD τ).loc main_arg5) (ix1 j) := by
  have e : m ((c.tc : Thread nD τ).loc main_arg5) (ix1 j) = V1 m c main_v8 (ix2 0 j) := by
    rw [V1_b2]; pointwise []
  rw [e]
  have h := (idx0 t).2.2.2.2.2.2.1
  blk_ext [iblk0, h]

/-- The last point of the first region. -/
def last0 : Fin cfg0.N := ⟨24, Nat.lt_of_lt_of_eq (by decide : 24 < 25) N_0.symm⟩

/-- The sums the second region finds. -/
theorem V2_sums (q : Fin 64) (k : Fin 512) : V2 m (outsB m) c main_v10_0 (ix2 q k) = (acc0 (V1 m) c 25).1 (ix2 q k) := by
  have e : V2 m (outsB m) c main_v10_0 = (dat0 (V1 m) c).arrAt 7 cfg0.N :=
    (afterRegion_ref0 m c main_v10_0).symm.trans (Pipeline.afterRegion_arr (dat0 (V1 m) c) (V1 m c) launch0.win.arr_inj 7)
  have e2 : ∀ A, (dat0 (V1 m) c).after 7 last0 = A → (dat0 (V1 m) c).arrAt 7 cfg0.N = A := fun A hA =>
    Dat.arrAt_eq_of_after_last (dat0 (V1 m) c) 7 last0 (by decide +kernel) _ fun j => by rw [hA]; blk_ext []
  exact congrFun (e.trans (e2 _ (after0_7 (V1 m) c last0))) _

/-- The counts the second region finds. -/
theorem V2_counts (q : Fin 64) (k : Fin 128) : V2 m (outsB m) c main_v10_1 (ix2 q k) = (acc0 (V1 m) c 25).2.1 (ix2 q k) := by
  have e : V2 m (outsB m) c main_v10_1 = (dat0 (V1 m) c).arrAt 8 cfg0.N :=
    (afterRegion_ref0 m c main_v10_1).symm.trans (Pipeline.afterRegion_arr (dat0 (V1 m) c) (V1 m c) launch0.win.arr_inj 8)
  have e2 : ∀ A, (dat0 (V1 m) c).after 8 last0 = A → (dat0 (V1 m) c).arrAt 8 cfg0.N = A := fun A hA =>
    Dat.arrAt_eq_of_after_last (dat0 (V1 m) c) 8 last0 (by decide +kernel) _ fun j => by rw [hA]; blk_ext []
  exact congrFun (e.trans (e2 _ (after0_8 (V1 m) c last0))) _

/-- The maxima the second region finds. -/
theorem V2_maxima (q : Fin 64) (k : Fin 512) : V2 m (outsB m) c main_v10_2 (ix2 q k) = (acc0 (V1 m) c 25).2.2 (ix2 q k) := by
  have e : V2 m (outsB m) c main_v10_2 = (dat0 (V1 m) c).arrAt 9 cfg0.N :=
    (afterRegion_ref0 m c main_v10_2).symm.trans (Pipeline.afterRegion_arr (dat0 (V1 m) c) (V1 m c) launch0.win.arr_inj 9)
  have e2 : ∀ A, (dat0 (V1 m) c).after 9 last0 = A → (dat0 (V1 m) c).arrAt 9 cfg0.N = A := fun A hA =>
    Dat.arrAt_eq_of_after_last (dat0 (V1 m) c) 9 last0 (by decide +kernel) _ fun j => by rw [hA]; blk_ext []
  exact congrFun (e.trans (e2 _ (after0_9 (V1 m) c last0))) _

theorem idx1 : ∀ t : Fin cfg1.N, win1_0.index t = ![t.val, 0] ∧ win1_1.index t = ![t.val, 0] ∧
    win1_2.index t = ![0, 0] ∧ win1_3.index t = ![0, 0] ∧ win1_4.index t = ![0, 0] ∧ win1_5.index t = ![0, 0] ∧ win1_6.index t = ![0, 0] ∧
    win1_7.index t = ![t.val, 0] := by decide +kernel

/-- The groups' block at a point of the second region. -/
theorem iblk1_groups (t : Fin cfg1.N) (r : Fin 5000) (ht : t.val < 10) :
    iblk1 (V2 m (outsB m)) c 0 t (ix2 r 0) = groups m c (ix1 ⟨5000 * t.val + r.val, by omega⟩) := by
  have e : (groups m c) (ix1 ⟨5000 * t.val + r.val, by omega⟩) = V2 m (outsB m) c main_v0 (ix2 ⟨5000 * t.val + r.val, by omega⟩ 0) := by
    rw [V2_of m (outsB m) c main_v0 (by decide), V1_bcol]; pointwise []
  rw [e]
  have h := (idx1 t).1
  blk_ext [iblk1, h]

/-- The nodes' block at a point of the second region. -/
theorem iblk1_x (t : Fin cfg1.N) (r : Fin 5000) (k : Fin 512) (ht : t.val < 10) :
    iblk1 (V2 m (outsB m)) c 1 t (ix2 r k) = m ((c.tc : Thread nD τ).loc main_arg0) (ix2 ⟨5000 * t.val + r.val, by omega⟩ k) := by
  have e : m ((c.tc : Thread nD τ).loc main_arg0) = V2 m (outsB m) c main_arg0 :=
    ((V2_of m (outsB m) c main_arg0 (by decide)).trans (V1_of m c main_arg0 (by decide))).symm
  rw [e]
  have h := (idx1 t).2.1
  blk_ext [iblk1, h]

theorem iblk1_sums (t : Fin cfg1.N) (q : Fin 64) (k : Fin 512) : iblk1 (V2 m (outsB m)) c 2 t (ix2 q k) = (acc0 (V1 m) c 25).1 (ix2 q k) := by
  rw [← V2_sums]
  have h := (idx1 t).2.2.1
  blk_ext [iblk1, h]

theorem iblk1_counts (t : Fin cfg1.N) (q : Fin 64) (k : Fin 128) : iblk1 (V2 m (outsB m)) c 3 t (ix2 q k) = (acc0 (V1 m) c 25).2.1 (ix2 q k) := by
  rw [← V2_counts]
  have h := (idx1 t).2.2.2.1
  blk_ext [iblk1, h]

theorem iblk1_maxima (t : Fin cfg1.N) (q : Fin 64) (k : Fin 512) : iblk1 (V2 m (outsB m)) c 4 t (ix2 q k) = (acc0 (V1 m) c 25).2.2 (ix2 q k) := by
  rw [← V2_maxima]
  have h := (idx1 t).2.2.2.2.1
  blk_ext [iblk1, h]

theorem iblk1_w3 (t : Fin cfg1.N) (i : Fin 1024) (j : Fin 512) :
    iblk1 (V2 m (outsB m)) c 5 t (ix2 i j) = m ((c.tc : Thread nD τ).loc main_arg6) (ix2 i j) := by
  have e : m ((c.tc : Thread nD τ).loc main_arg6) = V2 m (outsB m) c main_arg6 :=
    ((V2_of m (outsB m) c main_arg6 (by decide)).trans (V1_of m c main_arg6 (by decide))).symm
  rw [e]
  have h := (idx1 t).2.2.2.2.2.1
  blk_ext [iblk1, h]

theorem iblk1_b3 (t : Fin cfg1.N) (j : Fin 512) :
    iblk1 (V2 m (outsB m)) c 6 t (ix2 0 j) = m ((c.tc : Thread nD τ).loc main_arg7) (ix1 j) := by
  have e : m ((c.tc : Thread nD τ).loc main_arg7) (ix1 j) = V2 m (outsB m) c main_v9 (ix2 0 j) := by
    rw [V2_of m (outsB m) c main_v9 (by decide), V1_b3]; pointwise []
  rw [e]
  have h := (idx1 t).2.2.2.2.2.2.1
  blk_ext [iblk1, h]

/-- The result's array is `G` when each point's block is `G`'s rows. -/
theorem result_eq (G : Vec F S50000x512 .f32)
    (hG : ∀ (t : Fin cfg1.N) (ht : t.val < 10) (r : Fin 5000) (k : Fin 512),
      k1_pay2 (iblk1 (V2 m (outsB m)) c 0 t) (iblk1 (V2 m (outsB m)) c 1 t) (gate1 (V2 m (outsB m)) c) (ix2 r k) = G (ix2 ⟨5000 * t.val + r.val, by omega⟩ k)) :
    (dat1 (V2 m (outsB m)) c).arrAt 7 cfg1.N = G := by
  refine Dat.arrAt_eq_of_covers (dat1 (V2 m (outsB m)) c) 7 G (by decide +kernel) fun t _ y => ?_
  have ht : t.val < 10 := lt_of_lt_of_eq t.isLt N_1
  have h := (idx1 t).2.2.2.2.2.2.2
  rw [after1_7]
  blk_simp [h]
  have hy : y = ix2 (n0 := 5000) (n1 := 512) (y 0) (y 1) := by
    funext a
    match a with
    | ⟨0, _⟩ => rfl
    | ⟨1, _⟩ => rfl
  refine (congrArg (k1_pay2 (iblk1 (V2 m (outsB m)) c 0 t) (iblk1 (V2 m (outsB m)) c 1 t) (gate1 (V2 m (outsB m)) c)) hy).trans
    ((hG t ht (y 0) (y 1)).trans ?_)
  blk_ext [h]

end Cert.KernelIdeal.Hand
-- ==== Proof.KernelIdeal.Fold.lean ====
/- The first region's accumulators after all its points: each group's sum, count and maximum over its nodes. -/
module

public import proofs.«01_k».proof.Proof.KernelIdeal.Point
public import proofs.«01_k».proof.Proof.KernelIdeal.Blocks

@[expose] public section

set_option maxRecDepth 16384

noncomputable section

namespace Cert.KernelIdeal.Hand

open Cert.KernelIdeal Cert.KernelIdeal.Gen Cert.Hand
open Idealize.ShloMosaic Idealize.ShloMosaic.TcCoe Idealize.SL.Sem

/-- A running sum that gains 2000 consecutive terms at each of 25 points ends at the sum of all 50000. -/
theorem sum_blocks (S : ℕ → EReal) (f : Fin 50000 → EReal) (h0 : S 0 = 0)
    (hs : ∀ (t : ℕ) (ht : t < 25), S (t + 1) = S t + ∑ r : Fin 2000, f ⟨2000 * t + r.val, by omega⟩) : S 25 = ∑ r, f r := by
  let F : ℕ → EReal := fun n => if h : n < 50000 then f ⟨n, h⟩ else 0
  have hF : ∀ n (h : n < 50000), F n = f ⟨n, h⟩ := fun n h => dif_pos h
  have ind : ∀ t, t ≤ 25 → S t = ∑ n ∈ Finset.range (2000 * t), F n := by
    intro t
    induction t with
    | zero => intro _; rw [h0]; simp
    | succ t ih =>
      intro ht
      rw [hs t (by omega), ih (by omega), Nat.mul_succ, Finset.sum_range_add, ← Fin.sum_univ_eq_sum_range (fun x => F (2000 * t + x))]
      exact congrArg (_ + ·) (Finset.sum_congr rfl fun r _ => (hF _ _).symm)
  rw [ind 25 le_rfl, ← Fin.sum_univ_eq_sum_range F]
  exact Finset.sum_congr rfl fun r _ => hF _ r.isLt

/-- A point's maxima are the row loops' on the maxima before it. -/
theorem acc_maxima_succ {F : FTy → Type} [FloatOps F] (W : Dev nD → Valuation τ sig (Elt F)) (c : Dev nD) (t : Fin cfg0.N) :
    (acc0 W c (t.val + 1)).2.2 = maxStep (F := F) (iblk0 W c 0 t) (iblk0 W c 1 t) (iblk0 W c 2 t) (iblk0 W c 3 t)
      (iblk0 W c 4 t) (iblk0 W c 5 t) (iblk0 W c 6 t) (acc0 W c t.val).2.2 := by
  rw [acc0_succ]
  unfold step0
  dsimp only

variable (m : (ℓ : Loc nD τ sig) → Buf (Elt Ideal) ℓ) (c : Dev nD)

/-- Component `k` of node `r`'s latent features, from the launched arrays. -/
def latAt (r : Fin 50000) (k : Fin 512) : EReal :=
  latRow (fun i => m ((c.tc : Thread nD τ).loc main_arg0) (ix2 r i)) (fun i j => m ((c.tc : Thread nD τ).loc main_arg2) (ix2 i j))
    (fun j => m ((c.tc : Thread nD τ).loc main_arg3) (ix1 j)) (fun i j => m ((c.tc : Thread nD τ).loc main_arg4) (ix2 i j))
    (fun j => m ((c.tc : Thread nD τ).loc main_arg5) (ix1 j)) k

/-- A point's block of latent features is its nodes' latent features. -/
theorem block_latent (t : Fin cfg0.N) (ht : t.val < 25) (r : Fin 2000) (k : Fin 512) :
    k0_pay6 (F := Ideal) (iblk0 (V1 m) c 2 t) (iblk0 (V1 m) c 3 t) (iblk0 (V1 m) c 4 t) (iblk0 (V1 m) c 5 t) (iblk0 (V1 m) c 6 t) (ix2 r k)
      = latAt m c ⟨2000 * t.val + r.val, by omega⟩ k := by
  refine (latent_at _ _ _ _ _ r k).trans ?_
  unfold latAt
  congr 1
  · funext i; exact iblk0_x m c t r i ht
  · funext i j; exact iblk0_w1 m c t i j
  · funext j; exact iblk0_b1 m c t j
  · funext i j; exact iblk0_w2 m c t i j
  · funext j; exact iblk0_b2 m c t j

/-- The sums after the last point. -/
theorem acc_sums (q : Fin 64) (k : Fin 512) :
    (acc0 (V1 m) c 25).1 (ix2 q k) = ∑ r, if (groups m c (ix1 r)).toInt = (q.val : ℤ) then latAt m c r k else 0 := by
  refine sum_blocks (fun n => (acc0 (V1 m) c n).1 (ix2 q k)) (fun r => if (groups m c (ix1 r)).toInt = (q.val : ℤ) then latAt m c r k else 0) ?_ fun t ht => ?_
  · show k0_pay3 (F := Ideal) (ix2 q k) = 0
    pointwise [k0_pay3]
  · have hN : t < cfg0.N := lt_of_lt_of_eq ht N_0.symm
    show (acc0 (V1 m) c ((⟨t, hN⟩ : Fin cfg0.N).val + 1)).1 (ix2 q k) = _
    rw [acc0_succ]
    refine (sumStep_at _ _ _ _ _ _ _ q k).trans ?_
    refine congrArg (_ + ·) (Finset.sum_congr rfl fun r _ => ?_)
    exact if_congr (by rw [iblk0_groups m c ⟨t, hN⟩ r ht]) (block_latent m c ⟨t, hN⟩ ht r k) rfl

/-- The counts after the last point. -/
theorem acc_counts (q : Fin 64) (k : Fin 128) :
    (acc0 (V1 m) c 25).2.1 (ix2 q k) = ∑ r, if (groups m c (ix1 r)).toInt = (q.val : ℤ) then 1 else 0 := by
  refine sum_blocks (fun n => (acc0 (V1 m) c n).2.1 (ix2 q k)) (fun r => if (groups m c (ix1 r)).toInt = (q.val : ℤ) then 1 else 0) ?_ fun t ht => ?_
  · show k0_pay4 (F := Ideal) (ix2 q k) = 0
    pointwise [k0_pay4]
  · have hN : t < cfg0.N := lt_of_lt_of_eq ht N_0.symm
    show (acc0 (V1 m) c ((⟨t, hN⟩ : Fin cfg0.N).val + 1)).2.1 (ix2 q k) = _
    rw [acc0_succ]
    refine (cntStep_at _ _ q k).trans ?_
    refine congrArg (_ + ·) (Finset.sum_congr rfl fun r _ => ?_)
    exact if_congr (by rw [iblk0_groups m c ⟨t, hN⟩ r ht]) rfl rfl

/-- Ordered from each node to the next, the groups are ordered. -/
theorem groups_mono (hs : ∀ k : Fin 49999, (groups m c (ix1 ⟨k.val, by omega⟩)).toInt ≤ (groups m c (ix1 ⟨k.val + 1, by omega⟩)).toInt)
    (i : ℕ) (d : ℕ) : ∀ h : i + d < 50000, (groups m c (ix1 ⟨i, by omega⟩)).toInt ≤ (groups m c (ix1 ⟨i + d, h⟩)).toInt := by
  induction d with
  | zero => exact fun _ => le_rfl
  | succ d ih => exact fun h => (ih (by omega)).trans (hs ⟨i + d, by omega⟩)

/-- Word `k` of a point's limits: the group of a chunk's first or last node. -/
theorem lim_at (t : Fin cfg0.N) (ht : t.val < 25) (k : Fin 10) :
    lim (F := Ideal) (iblk0 (V1 m) c 0 t) k = groups m c (ix1 ⟨(5 * t.val + k.val / 2) * 400 + 399 * (k.val % 2), by omega⟩) :=
  (iblk0_lims m c t k).trans (limsOf_at (groups m c) ⟨t.val, ht⟩ 0 k)

/-- One point's maxima, by their upper bounds: those before it and those of the groups' members in the point's block. -/
theorem max_point (t : Fin cfg0.N) (ht : t.val < 25) (hg : ∀ i, 0 ≤ (groups m c i).toInt ∧ (groups m c i).toInt < 64)
    (hs : ∀ k : Fin 49999, (groups m c (ix1 ⟨k.val, by omega⟩)).toInt ≤ (groups m c (ix1 ⟨k.val + 1, by omega⟩)).toInt)
    (q : Fin 64) (k : Fin 512) (z : EReal) :
    (acc0 (V1 m) c (t.val + 1)).2.2 (ix2 q k) ≤ z ↔ (acc0 (V1 m) c t.val).2.2 (ix2 q k) ≤ z ∧
      ∀ r : Fin 2000, (groups m c (ix1 ⟨2000 * t.val + r.val, by omega⟩)).toInt = (q.val : ℤ) → latAt m c ⟨2000 * t.val + r.val, by omega⟩ k ≤ z := by
  have hl := lim_at m c t ht
  have hb := fun r => iblk0_groups m c t r ht
  have hL := fun r => block_latent m c t ht r k
  rw [acc_maxima_succ (V1 m) c t]
  generalize (acc0 (V1 m) c t.val).2.2 = A
  generalize iblk0 (V1 m) c 0 t = lims at hl
  generalize iblk0 (V1 m) c 1 t = b at hb
  generalize iblk0 (V1 m) c 2 t = x at hL
  generalize iblk0 (V1 m) c 3 t = w1 at hL
  generalize iblk0 (V1 m) c 4 t = b1 at hL
  generalize iblk0 (V1 m) c 5 t = w2 at hL
  generalize iblk0 (V1 m) c 6 t = b2 at hL
  refine (maxStep_le lims b x w1 b1 w2 b2 (fun j => ?_) (fun j r => ?_) A q k z).trans ?_
  · rw [hl]; exact hg _
  · rw [hl, hl, hb]
    have i0 : (5 * t.val + 2 * j.val / 2) * 400 + 399 * (2 * j.val % 2) = 2000 * t.val + 400 * j.val := by omega
    have i1 : (5 * t.val + (2 * j.val + 1) / 2) * 400 + 399 * ((2 * j.val + 1) % 2) = 2000 * t.val + 400 * j.val + r.val + (399 - r.val) := by omega
    have i2 : 2000 * t.val + (400 * j.val + r.val) = 2000 * t.val + 400 * j.val + r.val := by omega
    simp only [i0, i1, i2]
    exact ⟨groups_mono m c hs _ _ _, groups_mono m c hs _ _ _⟩
  · exact and_congr Iff.rfl (forall_congr' fun r => by rw [hb, hL])

/-- The maxima after the first `n` points, by their upper bounds: those of the groups' members so far. -/
theorem acc_maxima_le (hg : ∀ i, 0 ≤ (groups m c i).toInt ∧ (groups m c i).toInt < 64)
    (hs : ∀ k : Fin 49999, (groups m c (ix1 ⟨k.val, by omega⟩)).toInt ≤ (groups m c (ix1 ⟨k.val + 1, by omega⟩)).toInt)
    (q : Fin 64) (k : Fin 512) (z : EReal) (n : ℕ) : n ≤ 25 →
    ((acc0 (V1 m) c n).2.2 (ix2 q k) ≤ z ↔
      ∀ r : Fin 50000, r.val < 2000 * n → (groups m c (ix1 r)).toInt = (q.val : ℤ) → latAt m c r k ≤ z) := by
  induction n with
  | zero =>
    intro _
    have e : k0_pay5 (F := Ideal) (ix2 q k) = Ideal.ofBits .f32 4286578688#32 := by pointwise [k0_pay5]
    refine ⟨fun _ r hr => absurd hr (by omega), fun _ => ?_⟩
    show k0_pay5 (F := Ideal) (ix2 q k) ≤ z
    rw [e, negInf]
    exact bot_le
  | succ n ih =>
    intro hn
    have hN : n < cfg0.N := lt_of_lt_of_eq (by omega) N_0.symm
    have ht : n < 25 := by omega
    have step := max_point m c ⟨n, hN⟩ ht hg hs q k z
    refine step.trans ?_
    rw [ih (by omega)]
    constructor
    · rintro ⟨h1, h2⟩ r hr hq
      by_cases hlt : r.val < 2000 * n
      · exact h1 r hlt hq
      · have er : r = ⟨2000 * n + (r.val - 2000 * n), by omega⟩ := Fin.ext (by show r.val = 2000 * n + (r.val - 2000 * n); omega)
        rw [er]
        exact h2 ⟨r.val - 2000 * n, by omega⟩ (er ▸ hq)
    · intro h
      exact ⟨fun r hr => h r (by omega), fun r hr => h _ (by show 2000 * n + r.val < _; omega) hr⟩

end Cert.KernelIdeal.Hand
-- ==== Proof.ReferenceIdeal.Stages.lean ====
/- The reference's composed term cut into its stages, each read at an index. -/
module

public import proofs.«01_k».proof.Proof.Gen.ReferenceIdeal.Run
public import proofs.«01_k».proof.Proof.Shared.Latent
public import Idealize.ShloMosaic.Lib.Pipeline.ValueKit

@[expose] public section

set_option maxRecDepth 16384

noncomputable section

namespace Cert.ReferenceIdeal.Hand

open Cert.ReferenceIdeal Cert.ReferenceIdeal.Gen Cert.ReferenceIdeal.Facts
open Idealize.ShloMosaic Idealize.ShloMosaic.TcCoe

section Stages

variable {F : FTy → Type} [FloatOps F]

/-- The hidden layer before its activation. -/
def hidden (x : FVec F S50000x512 .f32) (w1 : FVec F S512x512 .f32) (b1 : FVec F S512 .f32) : FVec F S50000x512 .f32 :=
  (addf (Host.dotGeneral dot_S50000x512_S512x512_S50000x512_1_0_0_1_n_n none x w1) (broadcastInDim S50000x512 ![0, 1] bcast_S1x512_S50000x512_0_1 (broadcastInDim S1x512 ![1] bcast_S512_S1x512_1 b1)))

/-- The latent features. -/
def latent (x : FVec F S50000x512 .f32) (w1 : FVec F S512x512 .f32) (b1 : FVec F S512 .f32) (w2 : FVec F S512x512 .f32) (b2 : FVec F S512 .f32) :
    FVec F S50000x512 .f32 :=
  (addf (Host.dotGeneral dot_S50000x512_S512x512_S50000x512_1_0_0_1_n_n none (select (cmpf .oge (hidden x w1 b1) (broadcastInDim S50000x512 ![] bcast_S_S50000x512 (constant S_ .f32 0x00000000#32))) (hidden x w1 b1) (mulf (broadcastInDim S50000x512 ![] bcast_S_S50000x512 (id (constant S_ .f32 0x3E4CCCCD#32))) (hidden x w1 b1))) w2) (broadcastInDim S50000x512 ![0, 1] bcast_S1x512_S50000x512_0_1 (broadcastInDim S1x512 ![1] bcast_S512_S1x512_1 b2)))

/-- The groups' sums. -/
def sums (g : IVec S50000 32) (L : FVec F S50000x512 .f32) : FVec F S64x512 .f32 :=
  (Host.scatterAdd scatter_S64x512_S50000x1_S50000x512_1_0_0_1 (broadcastInDim S64x512 ![] bcast_S_S64x512 (constant S_ .f32 0x00000000#32)) (broadcastInDim S50000x1 ![0] bcast_S50000_S50000x1_0 g) L)

/-- The groups' counts. -/
def counts (g : IVec S50000 32) : FVec F S64x1 .f32 :=
  (Host.scatterAdd scatter_S64x1_S50000x1_S50000x1_1_0_0_1 (broadcastInDim S64x1 ![] bcast_S_S64x1 (constant S_ .f32 0x00000000#32)) (broadcastInDim S50000x1 ![0] bcast_S50000_S50000x1_0 g) (broadcastInDim S50000x1 ![] bcast_S_S50000x1 (constant S_ .f32 0x3F800000#32)))

/-- The groups' maxima. -/
def maxima (g : IVec S50000 32) (L : FVec F S50000x512 .f32) : FVec F S64x512 .f32 :=
  (Host.reduce FloatOps.maximumf (select (broadcastInDim S50000x64x512 ![0, 1, 2] bcast_S50000x64x1_S50000x64x512_0_1_2 (broadcastInDim S50000x64x1 ![0, 1] bcast_S50000x64_S50000x64x1_0_1 (cmpi .eq (broadcastInDim S50000x64 ![0, 1] bcast_S50000x1_S50000x64_0_1 (broadcastInDim S50000x1 ![0] bcast_S50000_S50000x1_0 g)) (broadcastInDim S50000x64 ![0, 1] bcast_S1x64_S50000x64_0_1 (broadcastInDim S1x64 ![1] bcast_S64_S1x64_1 (iotaInDim S64 32 0)))))) (broadcastInDim S50000x64x512 ![0, 1, 2] bcast_S50000x1x512_S50000x64x512_0_1_2 (broadcastInDim S50000x1x512 ![0, 2] bcast_S50000x512_S50000x1x512_0_2 L)) (broadcastInDim S50000x64x512 ![] bcast_S_S50000x64x512 (id (constant S_ .f32 0xFF800000#32)))) (constant S_ .f32 0xFF800000#32) reducesTo_S50000x64x512_S64x512_d0 h_S_)

/-- The groups' gates. -/
def gates (s : FVec F S64x512 .f32) (n : FVec F S64x1 .f32) (M : FVec F S64x512 .f32) (w3 : FVec F S1024x512 .f32) (b3 : FVec F S512 .f32) :
    FVec F S64x512 .f32 :=
  (Host.divf (broadcastInDim S64x512 ![] bcast_S_S64x512 (constant S_ .f32 0x3F800000#32)) (addf (broadcastInDim S64x512 ![] bcast_S_S64x512 (constant S_ .f32 0x3F800000#32)) (Host.exp (Host.negf (addf (Host.dotGeneral dot_S64x1024_S1024x512_S64x512_1_0_0_1_n_n none (concatenate S64x1024 1 [⟨S64x512, (Host.divf s (broadcastInDim S64x512 ![0, 1] bcast_S64x1_S64x512_0_1 (maximumf n (broadcastInDim S64x1 ![] bcast_S_S64x1 (constant S_ .f32 0x3F800000#32)))))⟩, ⟨S64x512, (select (broadcastInDim S64x512 ![0, 1] bcast_S64x1_S64x512_0_1 (cmpf .ogt n (broadcastInDim S64x1 ![] bcast_S_S64x1 (constant S_ .f32 0x00000000#32)))) M (broadcastInDim S64x512 ![] bcast_S_S64x512 (id (constant S_ .f32 0x00000000#32))))⟩] concatenates_S64x512_S64x512_S64x1024_d1) w3) (broadcastInDim S64x512 ![0, 1] bcast_S1x512_S64x512_0_1 (broadcastInDim S1x512 ![1] bcast_S512_S1x512_1 b3)))))))

/-- The nodes gated by their groups. -/
def gated (x : FVec F S50000x512 .f32) (g : IVec S50000 32) (G : FVec F S64x512 .f32) : FVec F S50000x512 .f32 :=
  mulf x (Host.gather gather_S64x512_S50000x1_S50000x512_1_0_n_n_0_1_1512 G (broadcastInDim S50000x1 ![0] bcast_S50000_S50000x1_0 (select (cmpi .slt g (broadcastInDim S50000 ![] bcast_S_S50000 (constantI S_ 32 0#32))) (addi g (broadcastInDim S50000 ![] bcast_S_S50000 (constantI S_ 32 64#32))) g)))

/-- The whole reference is the stages composed. -/
theorem res_eq (m : (ℓ : Loc nD τ sig) → Buf (Elt F) ℓ) (c : Dev nD) :
    Cert.ReferenceIdeal.Value.res_main_v51 m c
      = gated (m ((c.tc : Thread nD τ).loc main_arg0)) (m ((c.tc : Thread nD τ).loc main_arg1))
          (gates (sums (m ((c.tc : Thread nD τ).loc main_arg1)) (latent (m ((c.tc : Thread nD τ).loc main_arg0)) (m ((c.tc : Thread nD τ).loc main_arg2))
              (m ((c.tc : Thread nD τ).loc main_arg3)) (m ((c.tc : Thread nD τ).loc main_arg4)) (m ((c.tc : Thread nD τ).loc main_arg5))))
            (counts (m ((c.tc : Thread nD τ).loc main_arg1)))
            (maxima (m ((c.tc : Thread nD τ).loc main_arg1)) (latent (m ((c.tc : Thread nD τ).loc main_arg0)) (m ((c.tc : Thread nD τ).loc main_arg2))
              (m ((c.tc : Thread nD τ).loc main_arg3)) (m ((c.tc : Thread nD τ).loc main_arg4)) (m ((c.tc : Thread nD τ).loc main_arg5))))
            (m ((c.tc : Thread nD τ).loc main_arg6)) (m ((c.tc : Thread nD τ).loc main_arg7))) := rfl

end Stages

open Cert.Hand

/-- A row of the latent features is the plain function of the node's row. -/
theorem latent_at (x : FVec Ideal S50000x512 .f32) (w1 : FVec Ideal S512x512 .f32) (b1 : FVec Ideal S512 .f32)
    (w2 : FVec Ideal S512x512 .f32) (b2 : FVec Ideal S512 .f32) (r : Fin 50000) (k : Fin 512) :
    latent x w1 b1 w2 b2 (ix2 r k)
      = latRow (fun i => x (ix2 r i)) (fun i j => w1 (ix2 i j)) (fun j => b1 (ix1 j)) (fun i j => w2 (ix2 i j)) (fun j => b2 (ix1 j)) k := by
  pointwise [latent, hidden]
  rfl

/-- A group's maximum is at most `z` exactly when each of its members is. -/
theorem maxima_le (g : IVec S50000 32) (L : FVec Ideal S50000x512 .f32) (q : Fin 64) (k : Fin 512) (z : EReal) :
    maxima g L (ix2 q k) ≤ z ↔ ∀ r, g (ix1 r) = BitVec.ofNat 32 q.val → L (ix2 r k) ≤ z := by
  have h : maxima g L (ix2 q k) = Finset.fold max (Ideal.ofBits FTy.f32 4286578688#32)
      (fun x => Scalar.select (IntOp.cmpi CmpIPredicate.eq (g (ix1 x)) (BitVec.ofNat 32 q.val)) (L (ix2 x k))
          (Ideal.ofBits FTy.f32 4286578688#32)) Finset.univ := by
    pointwise [maxima]
    rfl
  rw [h, Finset.fold_max_le, negInf]
  refine ⟨fun h r hr => ?_, fun h => ⟨bot_le, fun r _ => ?_⟩⟩
  · have := h.2 r (Finset.mem_univ _)
    simpa [Scalar.select, IntOp.cmpi, hr] using this
  · by_cases hr : g (ix1 r) = BitVec.ofNat 32 q.val
    · simpa [Scalar.select, IntOp.cmpi, hr] using h r hr
    · have e : IntOp.cmpi CmpIPredicate.eq (g (ix1 r)) (BitVec.ofNat 32 q.val) = 0#1 := by
        have hb : (g (ix1 r) == BitVec.ofNat 32 q.val) = false := by simpa using hr
        simp only [IntOp.cmpi, hb]
        rfl
      rw [e]; exact bot_le

/-- A group's gate is the plain function of its sums, its count and its maxima. -/
theorem gates_at (s : FVec Ideal S64x512 .f32) (n : FVec Ideal S64x1 .f32) (M : FVec Ideal S64x512 .f32) (w3 : FVec Ideal S1024x512 .f32)
    (b3 : FVec Ideal S512 .f32) (q : Fin 64) (k : Fin 512) :
    gates s n M w3 b3 (ix2 q k)
      = gateRow (fun x => s (ix2 q x)) (n (ix2 q 0)) (fun x => M (ix2 q x)) (fun x y => w3 (ix2 ⟨x.val, by omega⟩ y))
          (fun x y => w3 (ix2 ⟨512 + x.val, by omega⟩ y)) (fun y => b3 (ix1 y)) k := by
  pointwise [gates]
  unfold gateRow
  rw [← zeroWord]
  rfl

/-- Where an update of a row scatter lands: the row its index names, the column it came from. -/
theorem scatter_row {n : Nat} (d : ScatterDims ⟨2, ![64, n]⟩ ⟨2, ![50000, 1]⟩ ⟨2, ![50000, n]⟩)
    {wf} (hd : d = ⟨[1], [0], [0], 1, wf⟩) (idx : IVec ⟨2, ![50000, 1]⟩ 32)
    (r : Fin 50000) (k' : Fin n) (q : Fin 64) (k : Fin n) :
    d.resultIdx? (ix2 r k') idx = some (ix2 q k) ↔ (idx (ix2 r 0)).toInt = (q.val : ℤ) ∧ k' = k := by
  have h0 : d.start (ix2 r k') idx 0 = (idx (ix2 r 0)).toInt := by
    rw [hd]
    unfold ScatterDims.start
    rw [dif_pos (List.mem_singleton.mpr rfl)]
    congr 2
    funext b
    match b with
    | ⟨0, _⟩ => rfl
    | ⟨1, _⟩ => rfl
  have h1 : d.start (ix2 r k') idx 1 = 0 := by
    rw [hd]; rfl
  have w0 : d.window (ix2 r k') 0 = 0 := by
    rw [hd]; rfl
  have w1 : d.window (ix2 r k') 1 = k'.val := by
    rw [hd]; rfl
  unfold ScatterDims.resultIdx?
  have hq := q.isLt
  have hk := k'.isLt
  constructor
  · intro h
    split at h
    · have e := Option.some.inj h
      have e0 := congrArg Fin.val (congrFun e 0)
      have e1 := congrArg Fin.val (congrFun e 1)
      rename_i hb
      have hb0 := hb 0
      simp only [h0, h1, w0, w1] at e0 e1 hb0
      refine ⟨?_, Fin.ext ?_⟩
      · have : ((idx (ix2 r 0)).toInt + ((0 : ℕ) : ℤ)).toNat = q.val := e0
        omega
      · have : ((0 : ℤ) + (k'.val : ℤ)).toNat = k.val := e1
        omega
    · cases h
  · rintro ⟨h, rfl⟩
    rw [dif_pos]
    · congr 1
      funext a
      refine Fin.ext ?_
      match a with
      | ⟨0, _⟩ =>
        show (d.start (ix2 r k') idx 0 + d.window (ix2 r k') 0).toNat = q.val
        rw [h0, w0]; omega
      | ⟨1, _⟩ =>
        show (d.start (ix2 r k') idx 1 + d.window (ix2 r k') 1).toNat = k'.val
        rw [h1, w1]; omega
    · intro a
      match a with
      | ⟨0, _⟩ =>
        show 0 ≤ d.start (ix2 r k') idx 0 + d.window (ix2 r k') 0 ∧ d.start (ix2 r k') idx 0 + d.window (ix2 r k') 0 < ((64 : ℕ) : ℤ)
        rw [h0, w0]; omega
      | ⟨1, _⟩ =>
        show 0 ≤ d.start (ix2 r k') idx 1 + d.window (ix2 r k') 1 ∧ d.start (ix2 r k') idx 1 + d.window (ix2 r k') 1 < ((n : ℕ) : ℤ)
        rw [h1, w1]; omega

/-- A row scatter's entry: the sum of the updates whose index names its row. -/
theorem scatter_at {n : Nat} (d : ScatterDims ⟨2, ![64, n]⟩ ⟨2, ![50000, 1]⟩ ⟨2, ![50000, n]⟩)
    {wf} (hd : d = ⟨[1], [0], [0], 1, wf⟩) (x : FVec Ideal ⟨2, ![64, n]⟩ .f32) (idx : IVec ⟨2, ![50000, 1]⟩ 32)
    (u : FVec Ideal ⟨2, ![50000, n]⟩ .f32) (q : Fin 64) (k : Fin n) :
    Host.scatterAdd d x idx u (ix2 q k) = x (ix2 q k) + ∑ r : Fin 50000, if (idx (ix2 r 0)).toInt = (q.val : ℤ) then u (ix2 r k) else 0 := by
  refine congrArg (x (ix2 q k) + ·) ?_
  rw [Finset.sum_filter, ValueIdx.sum_idx2]
  refine Finset.sum_congr rfl fun r _ => ?_
  simp only [← ix2_eq_valueIdx, scatter_row d hd idx r _ q k]
  by_cases h : (idx (ix2 r 0)).toInt = (q.val : ℤ)
  · simp [h]
  · simp [h]

/-- A group's sum: over its members. -/
theorem sums_at (g : IVec S50000 32) (L : FVec Ideal S50000x512 .f32) (q : Fin 64) (k : Fin 512) :
    sums g L (ix2 q k) = ∑ r : Fin 50000, if (g (ix1 r)).toInt = (q.val : ℤ) then L (ix2 r k) else 0 := by
  unfold sums
  refine (scatter_at _ rfl _ _ _ q k).trans ?_
  have h0 : (broadcastInDim S64x512 ![] bcast_S_S64x512 (constant S_ .f32 0x00000000#32 : FVec Ideal S_ .f32)) (ix2 q k) = 0 := by
    pointwise []
  have hg : ∀ r, (broadcastInDim S50000x1 ![0] bcast_S50000_S50000x1_0 g) (ix2 r 0) = g (ix1 r) := fun r => by
    pointwise []
  simp only [hg]
  exact (congrArg (· + _) h0).trans (zero_add _)

/-- A group's count: one for each of its members. -/
theorem counts_at (g : IVec S50000 32) (q : Fin 64) :
    counts (F := Ideal) g (ix2 q 0) = ∑ r : Fin 50000, if (g (ix1 r)).toInt = (q.val : ℤ) then 1 else 0 := by
  unfold counts
  refine (scatter_at _ rfl _ _ _ q 0).trans ?_
  have h0 : (broadcastInDim S64x1 ![] bcast_S_S64x1 (constant S_ .f32 0x00000000#32 : FVec Ideal S_ .f32)) (ix2 q 0) = 0 := by
    pointwise []
  have h1 : ∀ r, (broadcastInDim S50000x1 ![] bcast_S_S50000x1 (constant S_ .f32 0x3F800000#32 : FVec Ideal S_ .f32)) (ix2 r 0) = 1 := fun r => by
    pointwise []
  have hg : ∀ r, (broadcastInDim S50000x1 ![0] bcast_S50000_S50000x1_0 g) (ix2 r 0) = g (ix1 r) := fun r => by
    pointwise []
  simp only [hg, h1]
  exact (congrArg (· + _) h0).trans (zero_add _)

/-- A row taken by an index: the row of the index, when there is one. -/
theorem take_row (d : GatherDims S64x512 S50000x1 S50000x512) {wf} (hd : d = ⟨[1], [0], [], [], [0], 1, ![1, 512], wf⟩)
    (G : FVec Ideal S64x512 .f32) (idx : IVec S50000x1 32) (r : Fin 50000) (k : Fin 512) (q : Fin 64)
    (hq : (idx (ix2 r 0)).toInt = (q.val : ℤ)) : Host.gather d G idx (ix2 r k) = G (ix2 q k) := by
  have hl := q.isLt
  unfold Host.gather
  congr 1
  funext a
  refine Fin.ext ?_
  show d.start (ix2 r k) idx a + d.batchCoord (ix2 r k) a + d.offCoord (ix2 r k) a = _
  have s0 : d.start (ix2 r k) idx 0 = min (idx (ix2 r 0)).toInt.toNat 63 := by
    rw [hd]
    unfold GatherDims.start
    rw [dif_pos (List.mem_singleton.mpr rfl)]
    congr 4
    funext b
    match b with
    | ⟨0, _⟩ => rfl
    | ⟨1, _⟩ => rfl
  have s1 : d.start (ix2 r k) idx 1 = 0 := by rw [hd]; rfl
  have b0 : d.batchCoord (ix2 r k) 0 = 0 := by rw [hd]; rfl
  have b1 : d.batchCoord (ix2 r k) 1 = 0 := by rw [hd]; rfl
  have o0 : d.offCoord (ix2 r k) 0 = 0 := by rw [hd]; rfl
  have o1 : d.offCoord (ix2 r k) 1 = k.val := by rw [hd]; rfl
  match a with
  | ⟨0, _⟩ =>
    show d.start (ix2 r k) idx 0 + d.batchCoord (ix2 r k) 0 + d.offCoord (ix2 r k) 0 = q.val
    rw [s0, b0, o0]; omega
  | ⟨1, _⟩ =>
    show d.start (ix2 r k) idx 1 + d.batchCoord (ix2 r k) 1 + d.offCoord (ix2 r k) 1 = k.val
    rw [s1, b1, o1]; omega

/-- A node's result: its features times its group's gate. -/
theorem gated_at (x : FVec Ideal S50000x512 .f32) (g : IVec S50000 32) (G : FVec Ideal S64x512 .f32) (r : Fin 50000) (k : Fin 512) (q : Fin 64)
    (hq : (g (ix1 r)).toInt = (q.val : ℤ)) : gated x g G (ix2 r k) = x (ix2 r k) * G (ix2 q k) := by
  unfold gated
  refine congrArg (x (ix2 r k) * ·) (take_row _ rfl _ _ r k q ?_)
  refine Eq.trans ?_ hq
  have h : (broadcastInDim S50000x1 ![0] bcast_S50000_S50000x1_0
      (select (cmpi .slt g (broadcastInDim S50000 ![] bcast_S_S50000 (constantI S_ 32 0#32)))
        (addi g (broadcastInDim S50000 ![] bcast_S_S50000 (constantI S_ 32 64#32))) g)) (ix2 r 0)
      = Scalar.select (IntOp.cmpi .slt (g (ix1 r)) 0#32) (g (ix1 r) + 64#32) (g (ix1 r)) := by
    pointwise []
    rfl
  refine (congrArg BitVec.toInt h).trans (congrArg BitVec.toInt ?_)
  have hb : (g (ix1 r)).slt 0#32 = false := by
    simp [BitVec.slt, hq]
  simp only [IntOp.cmpi, hb]
  rfl

end Cert.ReferenceIdeal.Hand
-- ==== Proof.KernelIdeal.Algebraic.lean ====
/- The kernel's result is the reference's, on the extended reals. -/
module

public import proofs.«01_k».proof.Proof.KernelIdeal.Fold
public import proofs.«01_k».proof.Proof.KernelIdeal.Runs
public import proofs.«01_k».proof.Proof.ReferenceIdeal.Stages
public import proofs.«01_k».proof.Defs
public import Idealize.ShloMosaic.Lib.Claim

@[expose] public section

set_option maxRecDepth 16384

noncomputable section

namespace Cert.KernelIdeal.Hand

open Cert.KernelIdeal Cert.KernelIdeal.Gen Cert.Hand
open Idealize.ShloMosaic Idealize.ShloMosaic.TcCoe Idealize.SL.Sem

variable (m : (ℓ : Loc nD τ sig) → Buf (Elt Ideal) ℓ) (c : Dev nD)

/-- The reference's latent features of the launched arrays. -/
abbrev refLatent : FVec Ideal S50000x512 .f32 :=
  Cert.ReferenceIdeal.Hand.latent (F := Ideal) (m ((c.tc : Thread nD τ).loc main_arg0)) (m ((c.tc : Thread nD τ).loc main_arg2))
    (m ((c.tc : Thread nD τ).loc main_arg3)) (m ((c.tc : Thread nD τ).loc main_arg4)) (m ((c.tc : Thread nD τ).loc main_arg5))

/-- The reference's gates of the launched arrays. -/
abbrev refGates : FVec Ideal S64x512 .f32 :=
  Cert.ReferenceIdeal.Hand.gates (F := Ideal) (Cert.ReferenceIdeal.Hand.sums (groups m c) (refLatent m c)) (Cert.ReferenceIdeal.Hand.counts (groups m c))
    (Cert.ReferenceIdeal.Hand.maxima (groups m c) (refLatent m c)) (m ((c.tc : Thread nD τ).loc main_arg6)) (m ((c.tc : Thread nD τ).loc main_arg7))

/-- The reference's latent features are the kernel's. -/
theorem refLatent_at (r : Fin 50000) (k : Fin 512) : refLatent m c (ix2 r k) = latAt m c r k :=
  Cert.ReferenceIdeal.Hand.latent_at _ _ _ _ _ r k

/-- The sums agree. -/
theorem sums_eq (q : Fin 64) (k : Fin 512) :
    (acc0 (V1 m) c 25).1 (ix2 q k) = Cert.ReferenceIdeal.Hand.sums (groups m c) (refLatent m c) (ix2 q k) := by
  rw [acc_sums, Cert.ReferenceIdeal.Hand.sums_at]
  exact Finset.sum_congr rfl fun r _ => if_congr Iff.rfl (refLatent_at m c r k).symm rfl

/-- The counts agree. -/
theorem counts_eq (q : Fin 64) (k : Fin 128) :
    (acc0 (V1 m) c 25).2.1 (ix2 q k) = Cert.ReferenceIdeal.Hand.counts (F := Ideal) (groups m c) (ix2 q 0) := by
  rw [acc_counts, Cert.ReferenceIdeal.Hand.counts_at]

/-- The maxima agree: they have the same upper bounds. -/
theorem maxima_eq (hm : Cert.Pre_KernelIdeal m) (q : Fin 64) (k : Fin 512) :
    (acc0 (V1 m) c 25).2.2 (ix2 q k) = Cert.ReferenceIdeal.Hand.maxima (groups m c) (refLatent m c) (ix2 q k) := by
  refine eq_of_forall_ge_iff (α := EReal) fun z => ?_
  refine (acc_maxima_le m c (groups_pre m hm c).1 (groups_pre m hm c).2 q k z 25 le_rfl).trans
    (Iff.trans ?_ (Cert.ReferenceIdeal.Hand.maxima_le (groups m c) (refLatent m c) q k z).symm)
  refine forall_congr' fun r => ?_
  rw [word_eq _ _ q.isLt, refLatent_at]
  exact ⟨fun h => h (by omega), fun h _ => h⟩

/-- The gates agree. -/
theorem gates_eq (hm : Cert.Pre_KernelIdeal m) (q : Fin 64) (k : Fin 512) :
    gate1 (V2 m (outsB m)) c (ix2 q k) = refGates m c (ix2 q k) := by
  refine (gate_at _ _ _ _ _ q k).trans (Eq.trans ?_ (Cert.ReferenceIdeal.Hand.gates_at _ _ _ _ _ q k).symm)
  exact gateRow_congr (fun x => (iblk1_sums m c first1 q x).trans (sums_eq m c q x))
    ((iblk1_counts m c first1 q 0).trans (counts_eq m c q 0)) (fun x => (iblk1_maxima m c first1 q x).trans (maxima_eq m c hm q x))
    (fun x y => iblk1_w3 m c first1 _ y) (fun x y => iblk1_w3 m c first1 _ y) (fun y => iblk1_b3 m c first1 y) k

/-- The kernel's result is the reference's term of the launched arrays. -/
theorem result (hm : Cert.Pre_KernelIdeal m) :
    (dat1 (V2 m (outsB m)) c).arrAt 7 cfg1.N
      = Cert.ReferenceIdeal.Hand.gated (F := Ideal) (m ((c.tc : Thread nD τ).loc main_arg0)) (groups m c) (refGates m c) := by
  refine result_eq m c _ fun t ht r k => ?_
  have hg := (groups_pre m hm c).1 (ix1 ⟨5000 * t.val + r.val, by omega⟩)
  have hq : (groups m c (ix1 ⟨5000 * t.val + r.val, by omega⟩)).toInt
      = ((⟨(groups m c (ix1 ⟨5000 * t.val + r.val, by omega⟩)).toInt.toNat, by omega⟩ : Fin 64).val : ℤ) := by
    show _ = ((groups m c (ix1 ⟨5000 * t.val + r.val, _⟩)).toInt.toNat : ℤ)
    omega
  generalize (⟨(groups m c (ix1 ⟨5000 * t.val + r.val, by omega⟩)).toInt.toNat, by omega⟩ : Fin 64) = q at hq
  refine (out_at _ _ _ r k q ?_).trans (Eq.trans ?_ (Cert.ReferenceIdeal.Hand.gated_at _ _ _ ⟨5000 * t.val + r.val, by omega⟩ k q hq).symm)
  · rw [iblk1_groups m c t r ht]; exact hq
  · exact congrArg₂ (· * ·) (iblk1_x m c t r k ht) (gates_eq m c hm q k)

/-- THE VALUE. On arguments with sorted groups in range, the kernel and the reference end with equal results. -/
theorem algebraic : Cert.algebraic_KernelIdeal_ReferenceIdeal := by
  pair_intro
  · run_from (run m g (lims_pre m hpre))
  · run_from Cert.ReferenceIdeal.Value.run m' g'
    obtain ⟨h0, h1, h2, h3, h4, h5, h6, h7⟩ := hagree c
    refine (Cert.ReferenceIdeal.Hand.res_eq m' c).trans (Eq.trans ?_ (result m c hpre).symm)
    rw [h0, h1, h2, h3, h4, h5, h6, h7]

end Cert.KernelIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_sorted_segments
public import proofs.«01_k».proof.Proof.Gen.ReferenceIdeal.Run
public import proofs.«01_k».proof.Proof.KernelIdeal.Runs
public import proofs.«01_k».proof.Proof.Kernel.Runs
public import proofs.«01_k».proof.Proof.ReferenceIdeal.Frame
public import proofs.«01_k».proof.Proof.KernelIdeal.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_sorted_segments.Gen.facts,
  ⟨Cert.Kernel.Hand.frame, Cert.KernelIdeal.Hand.frame, Cert.ReferenceIdeal.Hand.frame, Cert.ReferenceIdeal.Hand.frame_pre, trivial, Cert.KernelIdeal.Hand.algebraic⟩⟩

end Cert.Proof

end
